-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x2048 : Shape := ⟨3, ![4, 8192, 2048]⟩
abbrev S4x8192x1 : Shape := ⟨3, ![4, 8192, 1]⟩
abbrev S2048x4096 : Shape := ⟨2, ![2048, 4096]⟩
abbrev S4096 : Shape := ⟨1, ![4096]⟩
abbrev S32768x2048 : Shape := ⟨2, ![32768, 2048]⟩
abbrev S4x1x8192 : Shape := ⟨3, ![4, 1, 8192]⟩
abbrev S1x4096 : Shape := ⟨2, ![1, 4096]⟩
abbrev S4x16x8192 : Shape := ⟨3, ![4, 16, 8192]⟩
abbrev S512x2048 : Shape := ⟨2, ![512, 2048]⟩
abbrev S1x1x512 : Shape := ⟨3, ![1, 1, 512]⟩
abbrev S1x16x512 : Shape := ⟨3, ![1, 16, 512]⟩
abbrev S512x128 : Shape := ⟨2, ![512, 128]⟩
abbrev S4x16x8x128 : Shape := ⟨4, ![4, 16, 8, 128]⟩
abbrev S8x128 : Shape := ⟨2, ![8, 128]⟩
abbrev S1x1x128 : Shape := ⟨3, ![1, 1, 128]⟩
abbrev S1x128 : Shape := ⟨2, ![1, 128]⟩
abbrev S8 : Shape := ⟨1, ![8]⟩
abbrev S8x1 : Shape := ⟨2, ![8, 1]⟩
abbrev S2048x512 : Shape := ⟨2, ![2048, 512]⟩
abbrev S512x512 : Shape := ⟨2, ![512, 512]⟩
abbrev S32x128 : Shape := ⟨2, ![32, 128]⟩
abbrev S32 : Shape := ⟨1, ![32]⟩
abbrev S32x1 : Shape := ⟨2, ![32, 1]⟩
abbrev S8x8 : Shape := ⟨2, ![8, 8]⟩
abbrev S1x1x8x8 : Shape := ⟨4, ![1, 1, 8, 8]⟩
abbrev S1x1x8x128 : Shape := ⟨4, ![1, 1, 8, 128]⟩
abbrev S128 : Shape := ⟨1, ![128]⟩

abbrev nBuf : Space → Nat
  | .hbm => 9
  | .vmem => 12
  | .smem => 0
  | _ => 0

abbrev bufTy : (tb : Table) → Fin (tcTables nBuf tb) → BufTy
  | .hbm, ⟨0, _⟩ => ⟨S4x8192x2048, .fp8e4m3⟩
  | .hbm, ⟨1, _⟩ => ⟨S4x8192x1, .f32⟩
  | .hbm, ⟨2, _⟩ => ⟨S2048x4096, .fp8e4m3⟩
  | .hbm, ⟨3, _⟩ => ⟨S4096, .f32⟩
  | .hbm, ⟨4, _⟩ => ⟨S32768x2048, .fp8e4m3⟩
  | .hbm, ⟨5, _⟩ => ⟨S4x1x8192, .f32⟩
  | .hbm, ⟨6, _⟩ => ⟨S1x4096, .f32⟩
  | .hbm, ⟨7, _⟩ => ⟨S32768x2048, .fp8e4m3⟩
  | .hbm, ⟨8, _⟩ => ⟨S4x16x8192, .f32⟩
  | .local _ .vmem, ⟨0, _⟩ => ⟨S512x2048, .fp8e4m3⟩
  | .local _ .vmem, ⟨1, _⟩ => ⟨S512x2048, .fp8e4m3⟩
  | .local _ .vmem, ⟨2, _⟩ => ⟨S1x1x512, .f32⟩
  | .local _ .vmem, ⟨3, _⟩ => ⟨S1x1x512, .f32⟩
  | .local _ .vmem, ⟨4, _⟩ => ⟨S2048x4096, .fp8e4m3⟩
  | .local _ .vmem, ⟨5, _⟩ => ⟨S1x4096, .f32⟩
  | .local _ .vmem, ⟨6, _⟩ => ⟨S512x2048, .fp8e4m3⟩
  | .local _ .vmem, ⟨7, _⟩ => ⟨S512x2048, .fp8e4m3⟩
  | .local _ .vmem, ⟨8, _⟩ => ⟨S1x16x512, .f32⟩
  | .local _ .vmem, ⟨9, _⟩ => ⟨S1x16x512, .f32⟩
  | .local _ .vmem, ⟨10, _⟩ => ⟨S512x128, .f32⟩
  | .local _ .vmem, ⟨11, _⟩ => ⟨S4x16x8x128, .f32⟩
  | _, _ => ⟨S4x8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S4x8192x2048 : Shape := ⟨3, ![4, 8192, 2048]⟩
abbrev S4x8192x1 : Shape := ⟨3, ![4, 8192, 1]⟩
abbrev S2048x4096 : Shape := ⟨2, ![2048, 4096]⟩
abbrev S4096 : Shape := ⟨1, ![4096]⟩
abbrev S32768x2048 : Shape := ⟨2, ![32768, 2048]⟩
abbrev S32768x1 : Shape := ⟨2, ![32768, 1]⟩
abbrev S1x4096 : Shape := ⟨2, ![1, 4096]⟩
abbrev S4x16x8192 : Shape := ⟨3, ![4, 16, 8192]⟩
abbrev S2048x128 : Shape := ⟨2, ![2048, 128]⟩
abbrev S32768x128 : Shape := ⟨2, ![32768, 128]⟩
abbrev S1x128 : Shape := ⟨2, ![1, 128]⟩
abbrev S32768 : Shape := ⟨1, ![32768]⟩
abbrev S4x8192 : Shape := ⟨2, ![4, 8192]⟩
abbrev S4x1x8192 : Shape := ⟨3, ![4, 1, 8192]⟩

abbrev nBuf : Space → Nat
  | .hbm => 9
  | .vmem => 6
  | .smem => 0
  | _ => 0

abbrev bufTy : (tb : Table) → Fin (tcTables nBuf tb) → BufTy
  | .hbm, ⟨0, _⟩ => ⟨S4x8192x2048, .fp8e4m3⟩
  | .hbm, ⟨1, _⟩ => ⟨S4x8192x1, .f32⟩
  | .hbm, ⟨2, _⟩ => ⟨S2048x4096, .fp8e4m3⟩
  | .hbm, ⟨3, _⟩ => ⟨S4096, .f32⟩
  | .hbm, ⟨4, _⟩ => ⟨S32768x2048, .fp8e4m3⟩
  | .hbm, ⟨5, _⟩ => ⟨S32768x1, .f32⟩
  | .hbm, ⟨6, _⟩ => ⟨S1x4096, .f32⟩
  | .hbm, ⟨7, _⟩ => ⟨S32768x2048, .fp8e4m3⟩
  | .hbm, ⟨8, _⟩ => ⟨S4x16x8192, .f32⟩
  | .local _ .vmem, ⟨0, _⟩ => ⟨S32768x2048, .fp8e4m3⟩
  | .local _ .vmem, ⟨1, _⟩ => ⟨S32768x1, .f32⟩
  | .local _ .vmem, ⟨2, _⟩ => ⟨S2048x4096, .fp8e4m3⟩
  | .local _ .vmem, ⟨3, _⟩ => ⟨S1x4096, .f32⟩
  | .local _ .vmem, ⟨4, _⟩ => ⟨S32768x2048, .fp8e4m3⟩
  | .local _ .vmem, ⟨5, _⟩ => ⟨S4x16x8192, .f32⟩
  | _, _ => ⟨S4x8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S32768x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x16x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Lists.lean ====
/- Lists written by index, the last index first: the order in which a run lists what it stored. -/
module

public import Mathlib.Data.Fin.Tuple.Basic

@[expose] public section

namespace Cert.Hand

/-- `f (n-1), …, f 0`. -/
def down {α : Type*} : (n : ℕ) → (Fin n → α) → List α
  | 0, _ => []
  | n + 1, f => f (Fin.last n) :: down n fun i => f i.castSucc

theorem mem_down {α : Type*} {a : α} : ∀ {n : ℕ} {f : Fin n → α}, a ∈ down n f → ∃ i, a = f i
  | 0, _, h => absurd h List.not_mem_nil
  | n + 1, f, h => by
    rcases List.mem_cons.mp h with h | h
    · exact ⟨_, h⟩
    · obtain ⟨i, hi⟩ := mem_down h
      exact ⟨_, hi⟩

/-- The lists `f (n-1), …, f 0` joined. -/
def downs {α : Type*} : (n : ℕ) → (Fin n → List α) → List α
  | 0, _ => []
  | n + 1, f => f (Fin.last n) ++ downs n fun i => f i.castSucc

theorem mem_downs {α : Type*} {a : α} : ∀ {n : ℕ} {f : Fin n → List α}, a ∈ downs n f → ∃ i, a ∈ f i
  | 0, _, h => absurd h List.not_mem_nil
  | n + 1, f, h => by
    rcases List.mem_append.mp h with h | h
    · exact ⟨_, h⟩
    · obtain ⟨i, hi⟩ := mem_downs h
      exact ⟨_, hi⟩

theorem mem_down_of {α : Type*} {n : ℕ} {f : Fin n → α} (i : Fin n) : f i ∈ down n f := by
  induction n with
  | zero => exact i.elim0
  | succ n ih =>
    induction i using Fin.lastCases with
    | last => exact List.mem_cons_self
    | cast i => exact List.mem_cons_of_mem _ (ih (f := fun i => f i.castSucc) i)

theorem mem_downs_of {α : Type*} {a : α} {n : ℕ} {f : Fin n → List α} (i : Fin n) (h : a ∈ f i) : a ∈ downs n f := by
  induction n with
  | zero => exact i.elim0
  | succ n ih =>
    induction i using Fin.lastCases with
    | last => exact List.mem_append_left _ h
    | cast i => exact List.mem_append_right _ (ih (f := fun i => f i.castSucc) i h)

end Cert.Hand

end
-- ==== Proof.KernelBlocks.lean ====
/- What one grid point of the kernel stores, as ONE family of pieces per output: every store of the body is the same
   sequence of vector operations at another place, so the run's lists of pieces are the lists written here by index. -/
module

public import proofs.«01_k».proof.Proof.Gen.KernelIdeal.Frame.Runs
public import proofs.«01_k».proof.Proof.Lists

@[expose] public section

noncomputable section

namespace Cert.KernelIdeal.Hand

open Cert.KernelIdeal Cert.KernelIdeal.Gen Cert.Hand Idealize.ShloMosaic Idealize.ShloMosaic.TcCoe

variable {F : FTy → Type} [FloatOps F] [Named F]

/-! ## The shapes: a grid point's windows and scratch -/

abbrev SX : Shape := S512x2048
abbrev SXs : Shape := S1x1x512
abbrev SW : Shape := S2048x4096
abbrev SWs : Shape := S1x4096
abbrev SCodes : Shape := S512x2048
abbrev SHs : Shape := S1x16x512
abbrev SRow : Shape := S512x128
abbrev SAmax : Shape := S4x16x8x128
abbrev SAcc : Shape := S512x512
abbrev SWp : Shape := S2048x512
/-- products per point, row slices of 32, row slices of 8, blocks of 128 rows, groups -/
abbrev NP : ℕ := 8
abbrev NR : ℕ := 16
abbrev NI : ℕ := 64
abbrev NB : ℕ := 4
abbrev NG : ℕ := 16
/-- rows of a point, the contracted extent -/
abbrev MR : ℕ := 512
abbrev NK : ℕ := 2048

/-! ## The power-of-two exponent, found bit by bit -/

/-- One step: the bit `b` is set in the word where the value with it set is still at most `y`. -/
def rung {s : Shape} (y : FVec F s .f32) (b : BitVec 32) (m : IVec s 32) : IVec s 32 :=
  select (cmpf .oge y (bitcastToFloat .f32 (ori m (broadcast s b)))) (ori m (broadcast s b)) m

/-- The exponent field of `a / 448`'s word, all ones where `a` is past the range of the format. -/
def expField {s : Shape} (a : FVec F s .f32) : IVec s 32 :=
  have y : FVec F s .f32 := mulf a (broadcast s (Scalar.ofBits .f32 0x3B124925#32))
  select (cmpf .ole a (broadcast s (Scalar.ofBits .f32 0x7F7FFFFF#32)))
    (rung y 8388608#32 (rung y 16777216#32 (rung y 33554432#32 (rung y 67108864#32
      (rung y 134217728#32 (rung y 268435456#32 (rung y 536870912#32 (rung y 1073741824#32 (broadcast s 0#32)))))))))
    (broadcast s 2139095040#32)

/-- Where the field is neither zero nor all ones. -/
def normalField {s : Shape} (m : IVec s 32) : IVec s 1 :=
  andi (cmpi .ne m (broadcast s 0#32)) (cmpi .ne m (broadcast s 2139095040#32))

/-! ## One piece of each store -/

/-- `h = silu(gate) * up` of 32 rows and one group: `g`, `u` the two products, `xs` the rows' scales, `sg`, `su` the
    columns'. -/
def pieceH (g u xs : FVec F S32x128 .f32) (sg su : Vec F S1x128 .f32) : FVec F S32x128 .f32 :=
  have gate : FVec F S32x128 .f32 := mulf (mulf g xs) (broadcastTo S32x128 (shapeCast S1x128 sg shapeCasts_S1x128_S1x128) broadcasts_S1x128_S32x128)
  have up : FVec F S32x128 .f32 := mulf (mulf u xs) (broadcastTo S32x128 (shapeCast S1x128 su shapeCasts_S1x128_S1x128) broadcasts_S1x128_S32x128)
  mulf (mulf gate (reciprocal true (addf (broadcast S32x128 (Scalar.ofBits .f32 0x3F800000#32))
    (exp2 (mulf gate (broadcast S32x128 (Named.named κ "neg_log2e" 0xBFB8AA3B#32))))))) up

/-- The largest magnitude of each row, in every column. -/
def pieceA (h : FVec F S32x128 .f32) : FVec F S32x128 .f32 :=
  broadcastTo S32x128 (shapeCast S32x1 (shapeCast S32x1
    (multiReduction .maximumf [1] S32 (absf h) 0xFF800000#32 reduces_S32x128_S32 (.inl rfl) rfl) shapeCasts_S32_S32x1) shapeCasts_S32x1_S32x1) broadcasts_S32x1_S32x128

/-- The codes of 32 rows and one group. -/
def pieceCodes (h : FVec F S32x128 .f32) : FVec F S32x128 .fp8e4m3 :=
  have m : IVec S32x128 32 := expField (pieceA h)
  truncf .fp8e4m3 (minimumf (broadcast S32x128 (Scalar.ofBits .f32 0x43E00000#32)) (maximumf (broadcast S32x128 (Scalar.ofBits .f32 0xC3E00000#32))
    (mulf h (bitcastToFloat .f32 (select (normalField m) (subi (broadcast S32x128 2122317824#32) m) (broadcast S32x128 1065353216#32)))))) bitsLt_fp8e4m3_f32

/-- The scales of 8 rows spread over the lanes: lane `j` of every row holds row `j`'s. -/
def pieceRow (v : Vec F S1x1x128 .f32) (off : ℕ) : FVec F S8x128 .f32 :=
  shapeCast S8x128 (broadcastTo S8x128 (shapeCast S8x1 (shapeCast S8x1
    (multiReduction .add [1] S8
      (select (cmpi .eq (iota .tc S8x128 32 [1] iota_S8x128_d1_w32) (addi (iota .tc S8x128 32 [0] iota_S8x128_d0_w32) (broadcast S8x128 (BitVec.ofNat 32 off))))
        (broadcastTo S8x128 (shapeCast S1x128 (shapeCast S1x128 v shapeCasts_S1x1x128_S1x128) shapeCasts_S1x128_S1x128) broadcasts_S1x128_S8x128)
        (broadcast S8x128 (Scalar.ofBits .f32 0x00000000#32)))
      0x00000000#32 reduces_S8x128_S8 (.inl rfl) rfl) shapeCasts_S8_S8x1) shapeCasts_S8x1_S8x1) broadcasts_S8x1_S8x128) shapeCasts_S8x128_S8x128

/-- The scales of 128 rows and one group, from the largest magnitudes kept by row block. -/
def pieceHs (v : Vec F S1x1x8x128 .f32) : FVec F S1x1x128 .f32 :=
  have a : FVec F S1x128 .f32 := shapeCast S1x128 (multiReduction .maximumf [0] S128
    (select (cmpi .eq (andi (iota .tc S8x128 32 [1] iota_S8x128_d1_w32) (broadcast S8x128 7#32)) (iota .tc S8x128 32 [0] iota_S8x128_d0_w32))
      (shapeCast S8x128 v shapeCasts_S1x1x8x128_S8x128) (broadcast S8x128 (Scalar.ofBits .f32 0x00000000#32)))
    0xFF800000#32 reduces_S8x128_S128 (.inl rfl) rfl) shapeCasts_S128_S1x128
  have m : IVec S1x128 32 := expField a
  shapeCast S1x1x128 (bitcastToFloat .f32 (select (normalField m) (addi m (broadcast S1x128 8388608#32)) (broadcast S1x128 1065353216#32))) shapeCasts_S1x128_S1x1x128

/-! ## The rectangles -/

theorem inbXs (b : Fin NB) : ∀ a, (![0, 0, 128 * b.val] : Fin 3 → ℕ) a + S1x1x128.size a ≤ SXs.size a := by
  revert b; decide +kernel
theorem inbRow (i : Fin NI) : ∀ a, (![8 * i.val, 0] : Fin 2 → ℕ) a + S8x128.size a ≤ SRow.size a := by
  revert i; decide +kernel
theorem inbRows (r : Fin NR) : ∀ a, (![32 * r.val, 0] : Fin 2 → ℕ) a + S32x128.size a ≤ SRow.size a := by
  revert r; decide +kernel
theorem inbW (p : Fin NP) : ∀ a, (![0, 512 * p.val] : Fin 2 → ℕ) a + SWp.size a ≤ SW.size a := by
  revert p; decide +kernel
theorem inbWs (k : Fin (2 * NG)) : ∀ a, (![0, 128 * k.val] : Fin 2 → ℕ) a + S1x128.size a ≤ SWs.size a := by
  revert k; decide +kernel
theorem inbCodes (r : Fin NR) (n : Fin NG) : ∀ a, (![32 * r.val, 128 * n.val] : Fin 2 → ℕ) a + S32x128.size a ≤ SCodes.size a := by
  revert n; revert r; decide +kernel
theorem slicesAcc (r : Fin NR) (k : Fin 4) : SAcc.Slices ![32 * r.val, 128 * k.val] S32x128 := by
  revert k; revert r; decide +kernel
theorem slicesA (b : Fin 4) : S32x128.Slices ![8 * b.val, 0] S8x8 := by
  revert b; decide +kernel
theorem inbAmax (r : Fin NR) (n : Fin NG) (b : Fin 4) :
    ∀ a, (![(32 * r.val + 8 * b.val) / 128, n.val, 0, (32 * r.val + 8 * b.val) % 128] : Fin 4 → ℕ) a + S1x1x8x8.size a ≤ SAmax.size a := by
  revert b; revert n; revert r; decide +kernel
theorem inbAmaxRow (k : Fin NB) (n : Fin NG) : ∀ a, (![k.val, n.val, 0, 0] : Fin 4 → ℕ) a + S1x1x8x128.size a ≤ SAmax.size a := by
  revert n; revert k; decide +kernel
theorem inbHs (k : Fin NB) (n : Fin NG) : ∀ a, (![0, n.val, 128 * k.val] : Fin 3 → ℕ) a + S1x1x128.size a ≤ SHs.size a := by
  revert n; revert k; decide +kernel
theorem inbX : ∀ a, (![0, 0] : Fin 2 → ℕ) a + SX.size a ≤ SX.size a := by decide
theorem castX : SX.ShapeCasts SX := by decide

abbrev rXs (b : Fin NB) : Rect SXs := Rect.unit ![0, 0, 128 * b.val] S1x1x128.size (inbXs b)
abbrev rRow (i : Fin NI) : Rect SRow := Rect.unit ![8 * i.val, 0] S8x128.size (inbRow i)
abbrev rRows (r : Fin NR) : Rect SRow := Rect.unit ![32 * r.val, 0] S32x128.size (inbRows r)
abbrev rX : Rect SX := Rect.unit ![0, 0] SX.size inbX
abbrev rW (p : Fin NP) : Rect SW := Rect.unit ![0, 512 * p.val] SWp.size (inbW p)
abbrev rWs (k : Fin (2 * NG)) : Rect SWs := Rect.unit ![0, 128 * k.val] S1x128.size (inbWs k)
abbrev rCodes (r : Fin NR) (n : Fin NG) : Rect SCodes := Rect.unit ![32 * r.val, 128 * n.val] S32x128.size (inbCodes r n)
abbrev rAmax (r : Fin NR) (n : Fin NG) (b : Fin 4) : Rect SAmax :=
  Rect.unit ![(32 * r.val + 8 * b.val) / 128, n.val, 0, (32 * r.val + 8 * b.val) % 128] S1x1x8x8.size (inbAmax r n b)
abbrev rAmaxRow (k : Fin NB) (n : Fin NG) : Rect SAmax := Rect.unit ![k.val, n.val, 0, 0] S1x1x8x128.size (inbAmaxRow k n)
abbrev rHs (k : Fin NB) (n : Fin NG) : Rect SHs := Rect.unit ![0, n.val, 128 * k.val] S1x1x128.size (inbHs k n)

/-- The group of product `p` and half `q`. -/
def grp (p : Fin NP) (q : Fin 2) : Fin NG := ⟨2 * p.val + q.val, by revert q; revert p; decide⟩
/-- The 128 columns `j` of the four in product `p`, among all of the weight's. -/
def col (p : Fin NP) (j : Fin 4) : Fin (2 * NG) := ⟨4 * p.val + j.val, by revert j; revert p; decide⟩
/-- The block of 128 rows a slice of 8 lies in. -/
def rowBlk (i : Fin NI) : Fin NB := ⟨i.val / 16, by revert i; decide⟩
/-- The gate's and the up's columns of half `q`. -/
def gcol (q : Fin 2) : Fin 4 := ⟨2 * q.val, by revert q; decide⟩
def ucol (q : Fin 2) : Fin 4 := ⟨2 * q.val + 1, by revert q; decide⟩

/-! ## The stores of the body, over what is loaded -/

section Stores

variable (arg1 : Memref sig .tc .vmem SX .fp8e4m3) (harg1 : arg1.IsWhole)
  (arg2 : Memref sig .tc .vmem SXs .f32) (harg2 : arg2.IsWhole)
  (arg3 : Memref sig .tc .vmem SW .fp8e4m3) (harg3 : arg3.IsWhole)
  (arg4 : Memref sig .tc .vmem SWs .f32) (harg4 : arg4.IsWhole)
  (arg7 : Memref sig .tc .vmem SRow .f32) (arg8 : Memref sig .tc .vmem SAmax .f32)
  (x0 : Vec F SX .fp8e4m3) (x1 : Vec F SXs .f32) (x2 : Vec F SW .fp8e4m3) (x3 : Vec F SWs .f32)

/-- The rows' scales, spread: 64 stores of 8 rows. -/
def rowList : List (View.Piece (Elt F) SRow .f32) :=
  down NI fun i => ⟨rRow i,
    pieceRow (View.readAt (Elt F) arg2.view (rXs (rowBlk i)).toLoadRect (harg2.unread x1)) (8 * i.val % 128)⟩

/-- Product `p`: all rows against 512 columns of the weight. -/
def acc (p : Fin NP) : FVec F SAcc .f32 :=
  matmul dot_S512x2048_S2048x512_S512x512_1_0_0_1_n_n none
    (shapeCast SX (View.readAt (Elt F) arg1.view rX.toLoadRect (harg1.unread x0)) castX)
    (View.readAt (Elt F) arg3.view (rW p).toLoadRect (harg3.unread x2))
    (constant SAcc .f32 0#32)

/-- `h` of row slice `r` and group `2p + q`. -/
def hAt (p : Fin NP) (r : Fin NR) (q : Fin 2) : FVec F S32x128 .f32 :=
  pieceH (extractStridedSlice S32x128 ![32 * r.val, 128 * (gcol q).val] (acc arg1 harg1 arg3 harg3 x0 x2 p) (slicesAcc r _))
    (extractStridedSlice S32x128 ![32 * r.val, 128 * (ucol q).val] (acc arg1 harg1 arg3 harg3 x0 x2 p) (slicesAcc r _))
    (arg7.view.readCov (rowList arg2 harg2 x1) (rRows r).toLoadRect)
    (View.readAt (Elt F) arg4.view (rWs (col p (gcol q))).toLoadRect (harg4.unread x3))
    (View.readAt (Elt F) arg4.view (rWs (col p (ucol q))).toLoadRect (harg4.unread x3))

/-- The stores of the codes. -/
def codesList : List (View.Piece (Elt F) SCodes .fp8e4m3) :=
  downs NP fun p => downs NR fun r => down 2 fun q =>
    ⟨rCodes r (grp p q),
      pieceCodes (hAt arg1 harg1 arg2 harg2 arg3 harg3 arg4 harg4 arg7 x0 x1 x2 x3 p r q)⟩

/-- The stores of the largest magnitudes: 8 rows by 8 lanes each. -/
def amaxList : List (View.Piece (Elt F) SAmax .f32) :=
  downs NP fun p => downs NR fun r => downs 2 fun q => down 4 fun b =>
    ⟨rAmax r (grp p q) b,
      shapeCast S1x1x8x8 (extractStridedSlice S8x8 ![8 * b.val, 0]
        (pieceA (hAt arg1 harg1 arg2 harg2 arg3 harg3 arg4 harg4 arg7 x0 x1 x2 x3 p r q)) (slicesA b)) shapeCasts_S8x8_S1x1x8x8⟩

/-- The stores of the scales. -/
def hsList : List (View.Piece (Elt F) SHs .f32) :=
  downs NB fun k => down NG fun n =>
    ⟨rHs k n,
      pieceHs (arg8.view.readCov (amaxList arg1 harg1 arg2 harg2 arg3 harg3 arg4 harg4 arg7 x0 x1 x2 x3)
        (rAmaxRow k n).toLoadRect)⟩

end Stores

end Cert.KernelIdeal.Hand

end
-- ==== Proof.KernelState.lean ====
/- The buffers of the kernel's body between two stretches of it, and what it is for a stretch to run. -/
module

public import proofs.«01_k».proof.Proof.KernelBlocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem SX .fp8e4m3) (harg1 : arg1.IsWhole) (arg2 : Memref sig .tc .vmem SXs .f32) (harg2 : arg2.IsWhole)
  (arg3 : Memref sig .tc .vmem SW .fp8e4m3) (harg3 : arg3.IsWhole) (arg4 : Memref sig .tc .vmem SWs .f32) (harg4 : arg4.IsWhole)
  (arg5 : Memref sig .tc .vmem SCodes .fp8e4m3) (harg5 : arg5.IsWhole) (arg6 : Memref sig .tc .vmem SHs .f32) (harg6 : arg6.IsWhole)
  (arg7 : Memref sig .tc .vmem SRow .f32) (harg7 : arg7.IsWhole) (arg8 : Memref sig .tc .vmem SAmax .f32) (harg8 : arg8.IsWhole)
  (x0 : Vec F SX .fp8e4m3) (x1 : Vec F SXs .f32) (x2 : Vec F SW .fp8e4m3) (x3 : Vec F SWs .f32)

/-- The eight buffers whole: the inputs at their contents, the outputs and the scratch at `d5` .. `d8`. -/
def Held (d5 : arg5.view.ty.Contents (Elt F)) (d6 : arg6.view.ty.Contents (Elt F)) (d7 : arg7.view.ty.Contents (Elt F))
    (d8 : arg8.view.ty.Contents (Elt F)) : sProp 𝕄 :=
  iprop((arg1.view.loc (c : Thread nD τ) ↦[arg1.view.set]{fullShare} harg1.unread x0)
    ∗ (arg2.view.loc (c : Thread nD τ) ↦[arg2.view.set]{fullShare} harg2.unread x1)
    ∗ (arg3.view.loc (c : Thread nD τ) ↦[arg3.view.set]{fullShare} harg3.unread x2)
    ∗ (arg4.view.loc (c : Thread nD τ) ↦[arg4.view.set]{fullShare} harg4.unread x3)
    ∗ (arg5.view.loc (c : Thread nD τ) ↦[arg5.view.set]{fullShare} d5)
    ∗ (arg6.view.loc (c : Thread nD τ) ↦[arg6.view.set]{fullShare} d6)
    ∗ (arg7.view.loc (c : Thread nD τ) ↦[arg7.view.set]{fullShare} d7)
    ∗ (arg8.view.loc (c : Thread nD τ) ↦[arg8.view.set]{fullShare} d8))

/-- The stretch `p`, run from the first contents of the outputs and scratch, gives `r` and leaves the second. -/
def Runs {α : Type} (p : Prog (TpuEff nD τ sig (Elt F) Λ₀ .tc) α) (r : α)
    (d5 : arg5.view.ty.Contents (Elt F)) (d6 : arg6.view.ty.Contents (Elt F)) (d7 : arg7.view.ty.Contents (Elt F)) (d8 : arg8.view.ty.Contents (Elt F))
    (e5 : arg5.view.ty.Contents (Elt F)) (e6 : arg6.view.ty.Contents (Elt F)) (e7 : arg7.view.ty.Contents (Elt F)) (e8 : arg8.view.ty.Contents (Elt F)) : Prop :=
  ∀ (E : Set ℕ) (K : α → sProp 𝕄),
    iprop(Held c arg1 harg1 arg2 harg2 arg3 harg3 arg4 harg4 arg5 arg6 arg7 arg8 x0 x1 x2 x3 d5 d6 d7 d8
        ∗ (Held c arg1 harg1 arg2 harg2 arg3 harg3 arg4 harg4 arg5 arg6 arg7 arg8 x0 x1 x2 x3 e5 e6 e7 e8 -∗ K r))
      ⊢ wp frame (wpE (defs₀ (F := F)) Variants.none c none) E p K

/-- Two stretches run one after the other. -/
theorem Runs.bind {α β : Type} {p : Prog (TpuEff nD τ sig (Elt F) Λ₀ .tc) α} {k : α → Prog (TpuEff nD τ sig (Elt F) Λ₀ .tc) β} {r : α} {s : β}
    {d5 e5 f5 : arg5.view.ty.Contents (Elt F)} {d6 e6 f6 : arg6.view.ty.Contents (Elt F)}
    {d7 e7 f7 : arg7.view.ty.Contents (Elt F)} {d8 e8 f8 : arg8.view.ty.Contents (Elt F)}
    (h : Runs c arg1 harg1 arg2 harg2 arg3 harg3 arg4 harg4 arg5 arg6 arg7 arg8 x0 x1 x2 x3 p r d5 d6 d7 d8 e5 e6 e7 e8)
    (h' : Runs c arg1 harg1 arg2 harg2 arg3 harg3 arg4 harg4 arg5 arg6 arg7 arg8 x0 x1 x2 x3 (k r) s e5 e6 e7 e8 f5 f6 f7 f8) :
    Runs c arg1 harg1 arg2 harg2 arg3 harg3 arg4 harg4 arg5 arg6 arg7 arg8 x0 x1 x2 x3 (p >>= k) s d5 d6 d7 d8 f5 f6 f7 f8 := by
  intro E K
  rw [wp_bind]
  refine BIBase.Entails.trans ?_ (h E _)
  iintro ⟨H, Hk⟩
  isplitl [H]
  · iexact H
  iintro H
  iapply (h' E K)
  isplitl [H]
  · iexact H
  iexact Hk

end Cert.KernelIdeal.Hand

end
-- ==== Proof.KernelStretch01.lean ====
/- Stretch 1 of the kernel's body. -/
module

public import proofs.«01_k».proof.Proof.KernelState

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem SX .fp8e4m3) (harg1 : arg1.IsWhole) (arg2 : Memref sig .tc .vmem SXs .f32) (harg2 : arg2.IsWhole)
  (arg3 : Memref sig .tc .vmem SW .fp8e4m3) (harg3 : arg3.IsWhole) (arg4 : Memref sig .tc .vmem SWs .f32) (harg4 : arg4.IsWhole)
  (arg5 : Memref sig .tc .vmem SCodes .fp8e4m3) (harg5 : arg5.IsWhole) (arg6 : Memref sig .tc .vmem SHs .f32) (harg6 : arg6.IsWhole)
  (arg7 : Memref sig .tc .vmem SRow .f32) (harg7 : arg7.IsWhole) (arg8 : Memref sig .tc .vmem SAmax .f32) (harg8 : arg8.IsWhole)
  (x0 : Vec F SX .fp8e4m3) (x1 : Vec F SXs .f32) (x2 : Vec F SW .fp8e4m3) (x3 : Vec F SWs .f32)

set_option maxHeartbeats 27192000 in
/-- Stretch 1 of the body: what it gives and stores, with the proof that it runs so. -/
def stretch1 (f5 : arg5.view.ty.Contents (Elt F)) (f6 : arg6.view.ty.Contents (Elt F)) (f7 : arg7.view.ty.Contents (Elt F)) (f8 : arg8.view.ty.Contents (Elt F))
    (L5 : List (View.Piece (Elt F) SCodes .fp8e4m3)) (L6 : List (View.Piece (Elt F) SHs .f32)) (L8 : List (View.Piece (Elt F) SAmax .f32)) :
    Σ' (r : (Σ' (v0 : IVec S8x128 32) (v1 : IVec S8x128 32) (v1029 : FVec F S512x512 .f32) (v2296 : Vec F S32x128 .f32) (v2321 : FVec F S32x128 .f32), FVec F S8x8 .f32)), Σ' (M5 : List (View.Piece (Elt F) SCodes .fp8e4m3)), Σ' (M6 : List (View.Piece (Elt F) SHs .f32)), Σ' (M7 : List (View.Piece (Elt F) SRow .f32)), { M8 : List (View.Piece (Elt F) SAmax .f32) //
      Runs c arg1 harg1 arg2 harg2 arg3 harg3 arg4 harg4 arg5 arg6 arg7 arg8 x0 x1 x2 x3 (k0_part786 i arg1 harg1 arg2 harg2 arg3 harg3 arg4 harg4 arg5 harg5 arg6 harg6 arg7 harg7 arg8 harg8) r
        (arg5.view.writes (Elt F) f5 L5) (arg6.view.writes (Elt F) f6 L6) f7 (arg8.view.writes (Elt F) f8 L8)
        (arg5.view.writes (Elt F) f5 M5) (arg6.view.writes (Elt F) f6 M6) (arg7.view.writes (Elt F) f7 M7) (arg8.view.writes (Elt F) f8 M8) } := by
  refine ⟨?_, ?_, ?_, ?_, ?_, fun E K => ?run⟩
  case run =>
    simp only [k0_part786_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold Held
    iintro ⟨⟨H1, H2, H3, H4, H5, H6, H7, H8⟩, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.KernelIdeal.Hand

end
-- ==== Proof.KernelStretch02.lean ====
/- Stretch 2 of the kernel's body. -/
module

public import proofs.«01_k».proof.Proof.KernelState

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem SX .fp8e4m3) (harg1 : arg1.IsWhole) (arg2 : Memref sig .tc .vmem SXs .f32) (harg2 : arg2.IsWhole)
  (arg3 : Memref sig .tc .vmem SW .fp8e4m3) (harg3 : arg3.IsWhole) (arg4 : Memref sig .tc .vmem SWs .f32) (harg4 : arg4.IsWhole)
  (arg5 : Memref sig .tc .vmem SCodes .fp8e4m3) (harg5 : arg5.IsWhole) (arg6 : Memref sig .tc .vmem SHs .f32) (harg6 : arg6.IsWhole)
  (arg7 : Memref sig .tc .vmem SRow .f32) (harg7 : arg7.IsWhole) (arg8 : Memref sig .tc .vmem SAmax .f32) (harg8 : arg8.IsWhole)
  (x0 : Vec F SX .fp8e4m3) (x1 : Vec F SXs .f32) (x2 : Vec F SW .fp8e4m3) (x3 : Vec F SWs .f32)

set_option maxHeartbeats 27192000 in
/-- Stretch 2 of the body: what it gives and stores, with the proof that it runs so. -/
def stretch2 (f5 : arg5.view.ty.Contents (Elt F)) (f6 : arg6.view.ty.Contents (Elt F)) (f7 : arg7.view.ty.Contents (Elt F)) (f8 : arg8.view.ty.Contents (Elt F))
    (L5 : List (View.Piece (Elt F) SCodes .fp8e4m3)) (L6 : List (View.Piece (Elt F) SHs .f32)) (L8 : List (View.Piece (Elt F) SAmax .f32))
    (v1029 : FVec F S512x512 .f32) (v2296 : Vec F S32x128 .f32) (v2321 : FVec F S32x128 .f32) (v2390 : FVec F S8x8 .f32) :
    Σ' (r : (Σ' (v4409 : FVec F S512x512 .f32) (v4832 : Vec F S32x128 .f32) (v4838 : FVec F S1x128 .f32) (v4841 : FVec F S32x128 .f32), FVec F S32x128 .f32)), Σ' (M5 : List (View.Piece (Elt F) SCodes .fp8e4m3)), Σ' (M6 : List (View.Piece (Elt F) SHs .f32)), { M8 : List (View.Piece (Elt F) SAmax .f32) //
      Runs c arg1 harg1 arg2 harg2 arg3 harg3 arg4 harg4 arg5 arg6 arg7 arg8 x0 x1 x2 x3 (k0_part787 i arg1 harg1 arg2 harg2 arg3 harg3 arg4 harg4 arg5 harg5 arg6 harg6 arg7 harg7 arg8 harg8 v1029 v2296 v2321 v2390) r
        (arg5.view.writes (Elt F) f5 L5) (arg6.view.writes (Elt F) f6 L6) f7 (arg8.view.writes (Elt F) f8 L8)
        (arg5.view.writes (Elt F) f5 M5) (arg6.view.writes (Elt F) f6 M6) f7 (arg8.view.writes (Elt F) f8 M8) } := by
  refine ⟨?_, ?_, ?_, ?_, fun E K => ?run⟩
  case run =>
    simp only [k0_part787_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton]
    unfold Held
    iintro ⟨⟨H1, H2, H3, H4, H5, H6, H7, H8⟩, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.KernelIdeal.Hand

end
-- ==== Proof.KernelStretch03.lean ====
/- Stretch 3 of the kernel's body. -/
module

public import proofs.«01_k».proof.Proof.KernelState

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem SX .fp8e4m3) (harg1 : arg1.IsWhole) (arg2 : Memref sig .tc .vmem SXs .f32) (harg2 : arg2.IsWhole)
  (arg3 : Memref sig .tc .vmem SW .fp8e4m3) (harg3 : arg3.IsWhole) (arg4 : Memref sig .tc .vmem SWs .f32) (harg4 : arg4.IsWhole)
  (arg5 : Memref sig .tc .vmem SCodes .fp8e4m3) (harg5 : arg5.IsWhole) (arg6 : Memref sig .tc .vmem SHs .f32) (harg6 : arg6.IsWhole)
  (arg7 : Memref sig .tc .vmem SRow .f32) (harg7 : arg7.IsWhole) (arg8 : Memref sig .tc .vmem SAmax .f32) (harg8 : arg8.IsWhole)
  (x0 : Vec F SX .fp8e4m3) (x1 : Vec F SXs .f32) (x2 : Vec F SW .fp8e4m3) (x3 : Vec F SWs .f32)

set_option maxHeartbeats 27192000 in
/-- Stretch 3 of the body: what it gives and stores, with the proof that it runs so. -/
def stretch3 (f5 : arg5.view.ty.Contents (Elt F)) (f6 : arg6.view.ty.Contents (Elt F)) (f7 : arg7.view.ty.Contents (Elt F)) (f8 : arg8.view.ty.Contents (Elt F))
    (L5 : List (View.Piece (Elt F) SCodes .fp8e4m3)) (L6 : List (View.Piece (Elt F) SHs .f32)) (L8 : List (View.Piece (Elt F) SAmax .f32))
    (v4409 : FVec F S512x512 .f32) (v4832 : Vec F S32x128 .f32) (v4838 : FVec F S1x128 .f32) (v4841 : FVec F S32x128 .f32) (v4842 : FVec F S32x128 .f32) :
    Σ' (r : (Σ' (v7278 : FVec F S32x128 .f32) (v7283 : FVec F S32x128 .f32) (v7285 : FVec F S32x128 .f32) (v7306 : IVec S32x128 32), BitVec 32)), Σ' (M5 : List (View.Piece (Elt F) SCodes .fp8e4m3)), Σ' (M6 : List (View.Piece (Elt F) SHs .f32)), { M8 : List (View.Piece (Elt F) SAmax .f32) //
      Runs c arg1 harg1 arg2 harg2 arg3 harg3 arg4 harg4 arg5 arg6 arg7 arg8 x0 x1 x2 x3 (k0_part788 i arg1 harg1 arg2 harg2 arg3 harg3 arg4 harg4 arg5 harg5 arg6 harg6 arg7 harg7 arg8 harg8 v4409 v4832 v4838 v4841 v4842) r
        (arg5.view.writes (Elt F) f5 L5) (arg6.view.writes (Elt F) f6 L6) f7 (arg8.view.writes (Elt F) f8 L8)
        (arg5.view.writes (Elt F) f5 M5) (arg6.view.writes (Elt F) f6 M6) f7 (arg8.view.writes (Elt F) f8 M8) } := by
  refine ⟨?_, ?_, ?_, ?_, fun E K => ?run⟩
  case run =>
    simp only [k0_part788_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton]
    unfold Held
    iintro ⟨⟨H1, H2, H3, H4, H5, H6, H7, H8⟩, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.KernelIdeal.Hand

end
-- ==== Proof.KernelStretch04.lean ====
/- Stretch 4 of the kernel's body. -/
module

public import proofs.«01_k».proof.Proof.KernelState

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem SX .fp8e4m3) (harg1 : arg1.IsWhole) (arg2 : Memref sig .tc .vmem SXs .f32) (harg2 : arg2.IsWhole)
  (arg3 : Memref sig .tc .vmem SW .fp8e4m3) (harg3 : arg3.IsWhole) (arg4 : Memref sig .tc .vmem SWs .f32) (harg4 : arg4.IsWhole)
  (arg5 : Memref sig .tc .vmem SCodes .fp8e4m3) (harg5 : arg5.IsWhole) (arg6 : Memref sig .tc .vmem SHs .f32) (harg6 : arg6.IsWhole)
  (arg7 : Memref sig .tc .vmem SRow .f32) (harg7 : arg7.IsWhole) (arg8 : Memref sig .tc .vmem SAmax .f32) (harg8 : arg8.IsWhole)
  (x0 : Vec F SX .fp8e4m3) (x1 : Vec F SXs .f32) (x2 : Vec F SW .fp8e4m3) (x3 : Vec F SWs .f32)

set_option maxHeartbeats 27192000 in
/-- Stretch 4 of the body: what it gives and stores, with the proof that it runs so. -/
def stretch4 (f5 : arg5.view.ty.Contents (Elt F)) (f6 : arg6.view.ty.Contents (Elt F)) (f7 : arg7.view.ty.Contents (Elt F)) (f8 : arg8.view.ty.Contents (Elt F))
    (L5 : List (View.Piece (Elt F) SCodes .fp8e4m3)) (L6 : List (View.Piece (Elt F) SHs .f32)) (L8 : List (View.Piece (Elt F) SAmax .f32))
    (v4409 : FVec F S512x512 .f32) (v7278 : FVec F S32x128 .f32) (v7283 : FVec F S32x128 .f32) (v7285 : FVec F S32x128 .f32) (v7306 : IVec S32x128 32) (c67108864_i32_3033 : BitVec 32) :
    Σ' (r : (Σ' (v7789 : FVec F S512x512 .f32) (v9689 : Vec F S32x128 .f32) (v9709 : FVec F S32x128 .f32) (v9714 : FVec F S32x128 .f32) (v9761 : IVec S32x128 32), IVec S32x128 1)), Σ' (M5 : List (View.Piece (Elt F) SCodes .fp8e4m3)), Σ' (M6 : List (View.Piece (Elt F) SHs .f32)), { M8 : List (View.Piece (Elt F) SAmax .f32) //
      Runs c arg1 harg1 arg2 harg2 arg3 harg3 arg4 harg4 arg5 arg6 arg7 arg8 x0 x1 x2 x3 (k0_part789 i arg1 harg1 arg2 harg2 arg3 harg3 arg4 harg4 arg5 harg5 arg6 harg6 arg7 harg7 arg8 harg8 v4409 v7278 v7283 v7285 v7306 c67108864_i32_3033) r
        (arg5.view.writes (Elt F) f5 L5) (arg6.view.writes (Elt F) f6 L6) f7 (arg8.view.writes (Elt F) f8 L8)
        (arg5.view.writes (Elt F) f5 M5) (arg6.view.writes (Elt F) f6 M6) f7 (arg8.view.writes (Elt F) f8 M8) } := by
  refine ⟨?_, ?_, ?_, ?_, fun E K => ?run⟩
  case run =>
    simp only [k0_part789_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton]
    unfold Held
    iintro ⟨⟨H1, H2, H3, H4, H5, H6, H7, H8⟩, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.KernelIdeal.Hand

end
-- ==== Proof.KernelStretch05.lean ====
/- Stretch 5 of the kernel's body. -/
module

public import proofs.«01_k».proof.Proof.KernelState

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem SX .fp8e4m3) (harg1 : arg1.IsWhole) (arg2 : Memref sig .tc .vmem SXs .f32) (harg2 : arg2.IsWhole)
  (arg3 : Memref sig .tc .vmem SW .fp8e4m3) (harg3 : arg3.IsWhole) (arg4 : Memref sig .tc .vmem SWs .f32) (harg4 : arg4.IsWhole)
  (arg5 : Memref sig .tc .vmem SCodes .fp8e4m3) (harg5 : arg5.IsWhole) (arg6 : Memref sig .tc .vmem SHs .f32) (harg6 : arg6.IsWhole)
  (arg7 : Memref sig .tc .vmem SRow .f32) (harg7 : arg7.IsWhole) (arg8 : Memref sig .tc .vmem SAmax .f32) (harg8 : arg8.IsWhole)
  (x0 : Vec F SX .fp8e4m3) (x1 : Vec F SXs .f32) (x2 : Vec F SW .fp8e4m3) (x3 : Vec F SWs .f32)

set_option maxHeartbeats 27192000 in
/-- Stretch 5 of the body: what it gives and stores, with the proof that it runs so. -/
def stretch5 (f5 : arg5.view.ty.Contents (Elt F)) (f6 : arg6.view.ty.Contents (Elt F)) (f7 : arg7.view.ty.Contents (Elt F)) (f8 : arg8.view.ty.Contents (Elt F))
    (L5 : List (View.Piece (Elt F) SCodes .fp8e4m3)) (L6 : List (View.Piece (Elt F) SHs .f32)) (L8 : List (View.Piece (Elt F) SAmax .f32))
    (v7789 : FVec F S512x512 .f32) (v9689 : Vec F S32x128 .f32) (v9709 : FVec F S32x128 .f32) (v9714 : FVec F S32x128 .f32) (v9761 : IVec S32x128 32) (v9766 : IVec S32x128 1) :
    Σ' (r : (Σ' (v11169 : FVec F S512x512 .f32) (v12144 : FVec F S32x128 .f32), FVec F S8x8 .f32)), Σ' (M5 : List (View.Piece (Elt F) SCodes .fp8e4m3)), Σ' (M6 : List (View.Piece (Elt F) SHs .f32)), { M8 : List (View.Piece (Elt F) SAmax .f32) //
      Runs c arg1 harg1 arg2 harg2 arg3 harg3 arg4 harg4 arg5 arg6 arg7 arg8 x0 x1 x2 x3 (k0_part790 i arg1 harg1 arg2 harg2 arg3 harg3 arg4 harg4 arg5 harg5 arg6 harg6 arg7 harg7 arg8 harg8 v7789 v9689 v9709 v9714 v9761 v9766) r
        (arg5.view.writes (Elt F) f5 L5) (arg6.view.writes (Elt F) f6 L6) f7 (arg8.view.writes (Elt F) f8 L8)
        (arg5.view.writes (Elt F) f5 M5) (arg6.view.writes (Elt F) f6 M6) f7 (arg8.view.writes (Elt F) f8 M8) } := by
  refine ⟨?_, ?_, ?_, ?_, fun E K => ?run⟩
  case run =>
    simp only [k0_part790_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton]
    unfold Held
    iintro ⟨⟨H1, H2, H3, H4, H5, H6, H7, H8⟩, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.KernelIdeal.Hand

end
-- ==== Proof.KernelStretch06.lean ====
/- Stretch 6 of the kernel's body. -/
module

public import proofs.«01_k».proof.Proof.KernelState

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem SX .fp8e4m3) (harg1 : arg1.IsWhole) (arg2 : Memref sig .tc .vmem SXs .f32) (harg2 : arg2.IsWhole)
  (arg3 : Memref sig .tc .vmem SW .fp8e4m3) (harg3 : arg3.IsWhole) (arg4 : Memref sig .tc .vmem SWs .f32) (harg4 : arg4.IsWhole)
  (arg5 : Memref sig .tc .vmem SCodes .fp8e4m3) (harg5 : arg5.IsWhole) (arg6 : Memref sig .tc .vmem SHs .f32) (harg6 : arg6.IsWhole)
  (arg7 : Memref sig .tc .vmem SRow .f32) (harg7 : arg7.IsWhole) (arg8 : Memref sig .tc .vmem SAmax .f32) (harg8 : arg8.IsWhole)
  (x0 : Vec F SX .fp8e4m3) (x1 : Vec F SXs .f32) (x2 : Vec F SW .fp8e4m3) (x3 : Vec F SWs .f32)

set_option maxHeartbeats 27192000 in
/-- Stretch 6 of the body: what it gives and stores, with the proof that it runs so. -/
def stretch6 (f5 : arg5.view.ty.Contents (Elt F)) (f6 : arg6.view.ty.Contents (Elt F)) (f7 : arg7.view.ty.Contents (Elt F)) (f8 : arg8.view.ty.Contents (Elt F))
    (L5 : List (View.Piece (Elt F) SCodes .fp8e4m3)) (L6 : List (View.Piece (Elt F) SHs .f32)) (L8 : List (View.Piece (Elt F) SAmax .f32))
    (v11169 : FVec F S512x512 .f32) (v12144 : FVec F S32x128 .f32) (v12217 : FVec F S8x8 .f32) :
    Σ' (r : (Σ' (v14549 : FVec F S512x512 .f32) (v14664 : FVec F S32x128 .f32) (v14667 : FVec F S32x128 .f32), FVec F S32x128 .f32)), Σ' (M5 : List (View.Piece (Elt F) SCodes .fp8e4m3)), Σ' (M6 : List (View.Piece (Elt F) SHs .f32)), { M8 : List (View.Piece (Elt F) SAmax .f32) //
      Runs c arg1 harg1 arg2 harg2 arg3 harg3 arg4 harg4 arg5 arg6 arg7 arg8 x0 x1 x2 x3 (k0_part791 i arg1 harg1 arg2 harg2 arg3 harg3 arg4 harg4 arg5 harg5 arg6 harg6 arg7 harg7 arg8 harg8 v11169 v12144 v12217) r
        (arg5.view.writes (Elt F) f5 L5) (arg6.view.writes (Elt F) f6 L6) f7 (arg8.view.writes (Elt F) f8 L8)
        (arg5.view.writes (Elt F) f5 M5) (arg6.view.writes (Elt F) f6 M6) f7 (arg8.view.writes (Elt F) f8 M8) } := by
  refine ⟨?_, ?_, ?_, ?_, fun E K => ?run⟩
  case run =>
    simp only [k0_part791_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton]
    unfold Held
    iintro ⟨⟨H1, H2, H3, H4, H5, H6, H7, H8⟩, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.KernelIdeal.Hand

end
-- ==== Proof.KernelStretch07.lean ====
/- Stretch 7 of the kernel's body. -/
module

public import proofs.«01_k».proof.Proof.KernelState

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem SX .fp8e4m3) (harg1 : arg1.IsWhole) (arg2 : Memref sig .tc .vmem SXs .f32) (harg2 : arg2.IsWhole)
  (arg3 : Memref sig .tc .vmem SW .fp8e4m3) (harg3 : arg3.IsWhole) (arg4 : Memref sig .tc .vmem SWs .f32) (harg4 : arg4.IsWhole)
  (arg5 : Memref sig .tc .vmem SCodes .fp8e4m3) (harg5 : arg5.IsWhole) (arg6 : Memref sig .tc .vmem SHs .f32) (harg6 : arg6.IsWhole)
  (arg7 : Memref sig .tc .vmem SRow .f32) (harg7 : arg7.IsWhole) (arg8 : Memref sig .tc .vmem SAmax .f32) (harg8 : arg8.IsWhole)
  (x0 : Vec F SX .fp8e4m3) (x1 : Vec F SXs .f32) (x2 : Vec F SW .fp8e4m3) (x3 : Vec F SWs .f32)

set_option maxHeartbeats 27192000 in
/-- Stretch 7 of the body: what it gives and stores, with the proof that it runs so. -/
def stretch7 (f5 : arg5.view.ty.Contents (Elt F)) (f6 : arg6.view.ty.Contents (Elt F)) (f7 : arg7.view.ty.Contents (Elt F)) (f8 : arg8.view.ty.Contents (Elt F))
    (L5 : List (View.Piece (Elt F) SCodes .fp8e4m3)) (L6 : List (View.Piece (Elt F) SHs .f32)) (L8 : List (View.Piece (Elt F) SAmax .f32))
    (v14549 : FVec F S512x512 .f32) (v14664 : FVec F S32x128 .f32) (v14667 : FVec F S32x128 .f32) (v14670 : FVec F S32x128 .f32) :
    Σ' (r : (Σ' (v17082 : Vec F S32x128 .f32) (v17102 : FVec F S32x128 .f32) (v17107 : FVec F S32x128 .f32) (v17109 : FVec F S32x128 .f32) (v17130 : IVec S32x128 32) (v17132 : IVec S32x128 32), FVec F S32x128 .f32)), Σ' (M5 : List (View.Piece (Elt F) SCodes .fp8e4m3)), Σ' (M6 : List (View.Piece (Elt F) SHs .f32)), { M8 : List (View.Piece (Elt F) SAmax .f32) //
      Runs c arg1 harg1 arg2 harg2 arg3 harg3 arg4 harg4 arg5 arg6 arg7 arg8 x0 x1 x2 x3 (k0_part792 i arg1 harg1 arg2 harg2 arg3 harg3 arg4 harg4 arg5 harg5 arg6 harg6 arg7 harg7 arg8 harg8 v14549 v14664 v14667 v14670) r
        (arg5.view.writes (Elt F) f5 L5) (arg6.view.writes (Elt F) f6 L6) f7 (arg8.view.writes (Elt F) f8 L8)
        (arg5.view.writes (Elt F) f5 M5) (arg6.view.writes (Elt F) f6 M6) f7 (arg8.view.writes (Elt F) f8 M8) } := by
  refine ⟨?_, ?_, ?_, ?_, fun E K => ?run⟩
  case run =>
    simp only [k0_part792_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton]
    unfold Held
    iintro ⟨⟨H1, H2, H3, H4, H5, H6, H7, H8⟩, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.KernelIdeal.Hand

end
-- ==== Proof.KernelStretch08.lean ====
/- Stretch 8 of the kernel's body. -/
module

public import proofs.«01_k».proof.Proof.KernelState

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem SX .fp8e4m3) (harg1 : arg1.IsWhole) (arg2 : Memref sig .tc .vmem SXs .f32) (harg2 : arg2.IsWhole)
  (arg3 : Memref sig .tc .vmem SW .fp8e4m3) (harg3 : arg3.IsWhole) (arg4 : Memref sig .tc .vmem SWs .f32) (harg4 : arg4.IsWhole)
  (arg5 : Memref sig .tc .vmem SCodes .fp8e4m3) (harg5 : arg5.IsWhole) (arg6 : Memref sig .tc .vmem SHs .f32) (harg6 : arg6.IsWhole)
  (arg7 : Memref sig .tc .vmem SRow .f32) (harg7 : arg7.IsWhole) (arg8 : Memref sig .tc .vmem SAmax .f32) (harg8 : arg8.IsWhole)
  (x0 : Vec F SX .fp8e4m3) (x1 : Vec F SXs .f32) (x2 : Vec F SW .fp8e4m3) (x3 : Vec F SWs .f32)

set_option maxHeartbeats 27192000 in
/-- Stretch 8 of the body: what it gives and stores, with the proof that it runs so. -/
def stretch8 (f5 : arg5.view.ty.Contents (Elt F)) (f6 : arg6.view.ty.Contents (Elt F)) (f7 : arg7.view.ty.Contents (Elt F)) (f8 : arg8.view.ty.Contents (Elt F))
    (L5 : List (View.Piece (Elt F) SCodes .fp8e4m3)) (L6 : List (View.Piece (Elt F) SHs .f32)) (L8 : List (View.Piece (Elt F) SAmax .f32))
    (v14549 : FVec F S512x512 .f32) (v17082 : Vec F S32x128 .f32) (v17102 : FVec F S32x128 .f32) (v17107 : FVec F S32x128 .f32) (v17109 : FVec F S32x128 .f32) (v17130 : IVec S32x128 32) (v17132 : IVec S32x128 32) (v17133 : FVec F S32x128 .f32) :
    Σ' (r : (Σ' (v17929 : FVec F S512x512 .f32) (v19532 : FVec F S32x128 .f32) (v19537 : FVec F S32x128 .f32), IVec S32x128 32)), Σ' (M5 : List (View.Piece (Elt F) SCodes .fp8e4m3)), Σ' (M6 : List (View.Piece (Elt F) SHs .f32)), { M8 : List (View.Piece (Elt F) SAmax .f32) //
      Runs c arg1 harg1 arg2 harg2 arg3 harg3 arg4 harg4 arg5 arg6 arg7 arg8 x0 x1 x2 x3 (k0_part793 i arg1 harg1 arg2 harg2 arg3 harg3 arg4 harg4 arg5 harg5 arg6 harg6 arg7 harg7 arg8 harg8 v14549 v17082 v17102 v17107 v17109 v17130 v17132 v17133) r
        (arg5.view.writes (Elt F) f5 L5) (arg6.view.writes (Elt F) f6 L6) f7 (arg8.view.writes (Elt F) f8 L8)
        (arg5.view.writes (Elt F) f5 M5) (arg6.view.writes (Elt F) f6 M6) f7 (arg8.view.writes (Elt F) f8 M8) } := by
  refine ⟨?_, ?_, ?_, ?_, fun E K => ?run⟩
  case run =>
    simp only [k0_part793_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton]
    unfold Held
    iintro ⟨⟨H1, H2, H3, H4, H5, H6, H7, H8⟩, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.KernelIdeal.Hand

end
-- ==== Proof.KernelStretch09.lean ====
/- Stretch 9 of the kernel's body. -/
module

public import proofs.«01_k».proof.Proof.KernelState

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem SX .fp8e4m3) (harg1 : arg1.IsWhole) (arg2 : Memref sig .tc .vmem SXs .f32) (harg2 : arg2.IsWhole)
  (arg3 : Memref sig .tc .vmem SW .fp8e4m3) (harg3 : arg3.IsWhole) (arg4 : Memref sig .tc .vmem SWs .f32) (harg4 : arg4.IsWhole)
  (arg5 : Memref sig .tc .vmem SCodes .fp8e4m3) (harg5 : arg5.IsWhole) (arg6 : Memref sig .tc .vmem SHs .f32) (harg6 : arg6.IsWhole)
  (arg7 : Memref sig .tc .vmem SRow .f32) (harg7 : arg7.IsWhole) (arg8 : Memref sig .tc .vmem SAmax .f32) (harg8 : arg8.IsWhole)
  (x0 : Vec F SX .fp8e4m3) (x1 : Vec F SXs .f32) (x2 : Vec F SW .fp8e4m3) (x3 : Vec F SWs .f32)

set_option maxHeartbeats 27192000 in
/-- Stretch 9 of the body: what it gives and stores, with the proof that it runs so. -/
def stretch9 (f5 : arg5.view.ty.Contents (Elt F)) (f6 : arg6.view.ty.Contents (Elt F)) (f7 : arg7.view.ty.Contents (Elt F)) (f8 : arg8.view.ty.Contents (Elt F))
    (L5 : List (View.Piece (Elt F) SCodes .fp8e4m3)) (L6 : List (View.Piece (Elt F) SHs .f32)) (L8 : List (View.Piece (Elt F) SAmax .f32))
    (v17929 : FVec F S512x512 .f32) (v19532 : FVec F S32x128 .f32) (v19537 : FVec F S32x128 .f32) (v19593 : IVec S32x128 32) :
    Σ' (r : (Σ' (v21309 : FVec F S512x512 .f32) (v21943 : Vec F S32x128 .f32) (v21968 : FVec F S32x128 .f32), FVec F S8x8 .f32)), Σ' (M5 : List (View.Piece (Elt F) SCodes .fp8e4m3)), Σ' (M6 : List (View.Piece (Elt F) SHs .f32)), { M8 : List (View.Piece (Elt F) SAmax .f32) //
      Runs c arg1 harg1 arg2 harg2 arg3 harg3 arg4 harg4 arg5 arg6 arg7 arg8 x0 x1 x2 x3 (k0_part794 i arg1 harg1 arg2 harg2 arg3 harg3 arg4 harg4 arg5 harg5 arg6 harg6 arg7 harg7 arg8 harg8 v17929 v19532 v19537 v19593) r
        (arg5.view.writes (Elt F) f5 L5) (arg6.view.writes (Elt F) f6 L6) f7 (arg8.view.writes (Elt F) f8 L8)
        (arg5.view.writes (Elt F) f5 M5) (arg6.view.writes (Elt F) f6 M6) f7 (arg8.view.writes (Elt F) f8 M8) } := by
  refine ⟨?_, ?_, ?_, ?_, fun E K => ?run⟩
  case run =>
    simp only [k0_part794_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton]
    unfold Held
    iintro ⟨⟨H1, H2, H3, H4, H5, H6, H7, H8⟩, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.KernelIdeal.Hand

end
-- ==== Proof.KernelStretch10.lean ====
/- Stretch 10 of the kernel's body. -/
module

public import proofs.«01_k».proof.Proof.KernelState

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem SX .fp8e4m3) (harg1 : arg1.IsWhole) (arg2 : Memref sig .tc .vmem SXs .f32) (harg2 : arg2.IsWhole)
  (arg3 : Memref sig .tc .vmem SW .fp8e4m3) (harg3 : arg3.IsWhole) (arg4 : Memref sig .tc .vmem SWs .f32) (harg4 : arg4.IsWhole)
  (arg5 : Memref sig .tc .vmem SCodes .fp8e4m3) (harg5 : arg5.IsWhole) (arg6 : Memref sig .tc .vmem SHs .f32) (harg6 : arg6.IsWhole)
  (arg7 : Memref sig .tc .vmem SRow .f32) (harg7 : arg7.IsWhole) (arg8 : Memref sig .tc .vmem SAmax .f32) (harg8 : arg8.IsWhole)
  (x0 : Vec F SX .fp8e4m3) (x1 : Vec F SXs .f32) (x2 : Vec F SW .fp8e4m3) (x3 : Vec F SWs .f32)

set_option maxHeartbeats 27192000 in
/-- Stretch 10 of the body: what it gives and stores, with the proof that it runs so. -/
def stretch10 (f5 : arg5.view.ty.Contents (Elt F)) (f6 : arg6.view.ty.Contents (Elt F)) (f7 : arg7.view.ty.Contents (Elt F)) (f8 : arg8.view.ty.Contents (Elt F))
    (L5 : List (View.Piece (Elt F) SCodes .fp8e4m3)) (L6 : List (View.Piece (Elt F) SHs .f32)) (L8 : List (View.Piece (Elt F) SAmax .f32))
    (v21309 : FVec F S512x512 .f32) (v21943 : Vec F S32x128 .f32) (v21968 : FVec F S32x128 .f32) (v22041 : FVec F S8x8 .f32) :
    Σ' (r : (Σ' (v24475 : Vec F S32x128 .f32) (v24495 : FVec F S32x128 .f32), FVec F S32x128 .f32)), Σ' (M5 : List (View.Piece (Elt F) SCodes .fp8e4m3)), Σ' (M6 : List (View.Piece (Elt F) SHs .f32)), { M8 : List (View.Piece (Elt F) SAmax .f32) //
      Runs c arg1 harg1 arg2 harg2 arg3 harg3 arg4 harg4 arg5 arg6 arg7 arg8 x0 x1 x2 x3 (k0_part795 i arg1 harg1 arg2 harg2 arg3 harg3 arg4 harg4 arg5 harg5 arg6 harg6 arg7 harg7 arg8 harg8 v21309 v21943 v21968 v22041) r
        (arg5.view.writes (Elt F) f5 L5) (arg6.view.writes (Elt F) f6 L6) f7 (arg8.view.writes (Elt F) f8 L8)
        (arg5.view.writes (Elt F) f5 M5) (arg6.view.writes (Elt F) f6 M6) f7 (arg8.view.writes (Elt F) f8 M8) } := by
  refine ⟨?_, ?_, ?_, ?_, fun E K => ?run⟩
  case run =>
    simp only [k0_part795_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton]
    unfold Held
    iintro ⟨⟨H1, H2, H3, H4, H5, H6, H7, H8⟩, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.KernelIdeal.Hand

end
-- ==== Proof.KernelStretch11.lean ====
/- Stretch 11 of the kernel's body. -/
module

public import proofs.«01_k».proof.Proof.KernelState

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem SX .fp8e4m3) (harg1 : arg1.IsWhole) (arg2 : Memref sig .tc .vmem SXs .f32) (harg2 : arg2.IsWhole)
  (arg3 : Memref sig .tc .vmem SW .fp8e4m3) (harg3 : arg3.IsWhole) (arg4 : Memref sig .tc .vmem SWs .f32) (harg4 : arg4.IsWhole)
  (arg5 : Memref sig .tc .vmem SCodes .fp8e4m3) (harg5 : arg5.IsWhole) (arg6 : Memref sig .tc .vmem SHs .f32) (harg6 : arg6.IsWhole)
  (arg7 : Memref sig .tc .vmem SRow .f32) (harg7 : arg7.IsWhole) (arg8 : Memref sig .tc .vmem SAmax .f32) (harg8 : arg8.IsWhole)
  (x0 : Vec F SX .fp8e4m3) (x1 : Vec F SXs .f32) (x2 : Vec F SW .fp8e4m3) (x3 : Vec F SWs .f32)

set_option maxHeartbeats 27192000 in
/-- Stretch 11 of the body: what it gives and stores, with the proof that it runs so. -/
def stretch11 (f5 : arg5.view.ty.Contents (Elt F)) (f6 : arg6.view.ty.Contents (Elt F)) (f7 : arg7.view.ty.Contents (Elt F)) (f8 : arg8.view.ty.Contents (Elt F))
    (L5 : List (View.Piece (Elt F) SCodes .fp8e4m3)) (L6 : List (View.Piece (Elt F) SHs .f32)) (L8 : List (View.Piece (Elt F) SAmax .f32))
    (v21309 : FVec F S512x512 .f32) (v24475 : Vec F S32x128 .f32) (v24495 : FVec F S32x128 .f32) (v24500 : FVec F S32x128 .f32) :
    Σ' (r : (Σ' (v24689 : FVec F S512x512 .f32) (v26925 : FVec F S32x128 .f32) (v26930 : FVec F S32x128 .f32) (v26932 : FVec F S32x128 .f32) (v26958 : IVec S32x128 32) (v26960 : IVec S32x128 32), FVec F S32x128 .f32)), Σ' (M5 : List (View.Piece (Elt F) SCodes .fp8e4m3)), Σ' (M6 : List (View.Piece (Elt F) SHs .f32)), { M8 : List (View.Piece (Elt F) SAmax .f32) //
      Runs c arg1 harg1 arg2 harg2 arg3 harg3 arg4 harg4 arg5 arg6 arg7 arg8 x0 x1 x2 x3 (k0_part796 i arg1 harg1 arg2 harg2 arg3 harg3 arg4 harg4 arg5 harg5 arg6 harg6 arg7 harg7 arg8 harg8 v21309 v24475 v24495 v24500) r
        (arg5.view.writes (Elt F) f5 L5) (arg6.view.writes (Elt F) f6 L6) f7 (arg8.view.writes (Elt F) f8 L8)
        (arg5.view.writes (Elt F) f5 M5) (arg6.view.writes (Elt F) f6 M6) f7 (arg8.view.writes (Elt F) f8 M8) } := by
  refine ⟨?_, ?_, ?_, ?_, fun E K => ?run⟩
  case run =>
    simp only [k0_part796_eq_skeleton, k0_part601_eq_skeleton, k0_part602_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton, k0_part652_eq_skeleton, k0_part653_eq_skeleton, k0_part654_eq_skeleton, k0_part655_eq_skeleton, k0_part656_eq_skeleton, k0_part657_eq_skeleton, k0_part658_eq_skeleton, k0_part659_eq_skeleton, k0_part660_eq_skeleton]
    unfold Held
    iintro ⟨⟨H1, H2, H3, H4, H5, H6, H7, H8⟩, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.KernelIdeal.Hand

end
-- ==== Proof.KernelStretch12.lean ====
/- Stretch 12 of the kernel's body. -/
module

public import proofs.«01_k».proof.Proof.KernelState

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem SX .fp8e4m3) (harg1 : arg1.IsWhole) (arg2 : Memref sig .tc .vmem SXs .f32) (harg2 : arg2.IsWhole)
  (arg3 : Memref sig .tc .vmem SW .fp8e4m3) (harg3 : arg3.IsWhole) (arg4 : Memref sig .tc .vmem SWs .f32) (harg4 : arg4.IsWhole)
  (arg5 : Memref sig .tc .vmem SCodes .fp8e4m3) (harg5 : arg5.IsWhole) (arg6 : Memref sig .tc .vmem SHs .f32) (harg6 : arg6.IsWhole)
  (arg7 : Memref sig .tc .vmem SRow .f32) (harg7 : arg7.IsWhole) (arg8 : Memref sig .tc .vmem SAmax .f32) (harg8 : arg8.IsWhole)
  (x0 : Vec F SX .fp8e4m3) (x1 : Vec F SXs .f32) (x2 : Vec F SW .fp8e4m3) (x3 : Vec F SWs .f32)

set_option maxHeartbeats 27192000 in
/-- Stretch 12 of the body: what it gives and stores, with the proof that it runs so. -/
def stretch12 (f5 : arg5.view.ty.Contents (Elt F)) (f6 : arg6.view.ty.Contents (Elt F)) (f7 : arg7.view.ty.Contents (Elt F)) (f8 : arg8.view.ty.Contents (Elt F))
    (L5 : List (View.Piece (Elt F) SCodes .fp8e4m3)) (L6 : List (View.Piece (Elt F) SHs .f32)) (L8 : List (View.Piece (Elt F) SAmax .f32))
    (v0 : IVec S8x128 32) (v1 : IVec S8x128 32) (v24689 : FVec F S512x512 .f32) (v26925 : FVec F S32x128 .f32) (v26930 : FVec F S32x128 .f32) (v26932 : FVec F S32x128 .f32) (v26958 : IVec S32x128 32) (v26960 : IVec S32x128 32) (v26961 : FVec F S32x128 .f32) :
    Σ' (r : (Σ' (v28068 : IVec S8x128 1) (v29460 : FVec F S1x128 .f32) (v29462 : FVec F S1x128 .f32) (v29478 : IVec S1x128 32), IVec S1x128 32)), Σ' (M5 : List (View.Piece (Elt F) SCodes .fp8e4m3)), Σ' (M6 : List (View.Piece (Elt F) SHs .f32)), { M8 : List (View.Piece (Elt F) SAmax .f32) //
      Runs c arg1 harg1 arg2 harg2 arg3 harg3 arg4 harg4 arg5 arg6 arg7 arg8 x0 x1 x2 x3 (k0_part797 i arg1 harg1 arg2 harg2 arg3 harg3 arg4 harg4 arg5 harg5 arg6 harg6 arg7 harg7 arg8 harg8 v0 v1 v24689 v26925 v26930 v26932 v26958 v26960 v26961) r
        (arg5.view.writes (Elt F) f5 L5) (arg6.view.writes (Elt F) f6 L6) f7 (arg8.view.writes (Elt F) f8 L8)
        (arg5.view.writes (Elt F) f5 M5) (arg6.view.writes (Elt F) f6 M6) f7 (arg8.view.writes (Elt F) f8 M8) } := by
  refine ⟨?_, ?_, ?_, ?_, fun E K => ?run⟩
  case run =>
    simp only [k0_part797_eq_skeleton, k0_part661_eq_skeleton, k0_part662_eq_skeleton, k0_part663_eq_skeleton, k0_part664_eq_skeleton, k0_part665_eq_skeleton, k0_part666_eq_skeleton, k0_part667_eq_skeleton, k0_part668_eq_skeleton, k0_part669_eq_skeleton, k0_part670_eq_skeleton, k0_part671_eq_skeleton, k0_part672_eq_skeleton, k0_part673_eq_skeleton, k0_part674_eq_skeleton, k0_part675_eq_skeleton, k0_part676_eq_skeleton, k0_part677_eq_skeleton, k0_part678_eq_skeleton, k0_part679_eq_skeleton, k0_part680_eq_skeleton, k0_part681_eq_skeleton, k0_part682_eq_skeleton, k0_part683_eq_skeleton, k0_part684_eq_skeleton, k0_part685_eq_skeleton, k0_part686_eq_skeleton, k0_part687_eq_skeleton, k0_part688_eq_skeleton, k0_part689_eq_skeleton, k0_part690_eq_skeleton, k0_part691_eq_skeleton, k0_part692_eq_skeleton, k0_part693_eq_skeleton, k0_part694_eq_skeleton, k0_part695_eq_skeleton, k0_part696_eq_skeleton, k0_part697_eq_skeleton, k0_part698_eq_skeleton, k0_part699_eq_skeleton, k0_part700_eq_skeleton, k0_part701_eq_skeleton, k0_part702_eq_skeleton, k0_part703_eq_skeleton, k0_part704_eq_skeleton, k0_part705_eq_skeleton, k0_part706_eq_skeleton, k0_part707_eq_skeleton, k0_part708_eq_skeleton, k0_part709_eq_skeleton, k0_part710_eq_skeleton, k0_part711_eq_skeleton, k0_part712_eq_skeleton, k0_part713_eq_skeleton, k0_part714_eq_skeleton, k0_part715_eq_skeleton, k0_part716_eq_skeleton, k0_part717_eq_skeleton, k0_part718_eq_skeleton, k0_part719_eq_skeleton, k0_part720_eq_skeleton]
    unfold Held
    iintro ⟨⟨H1, H2, H3, H4, H5, H6, H7, H8⟩, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.KernelIdeal.Hand

end
-- ==== Proof.KernelStretch13.lean ====
/- Stretch 13 of the kernel's body. -/
module

public import proofs.«01_k».proof.Proof.KernelState

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem SX .fp8e4m3) (harg1 : arg1.IsWhole) (arg2 : Memref sig .tc .vmem SXs .f32) (harg2 : arg2.IsWhole)
  (arg3 : Memref sig .tc .vmem SW .fp8e4m3) (harg3 : arg3.IsWhole) (arg4 : Memref sig .tc .vmem SWs .f32) (harg4 : arg4.IsWhole)
  (arg5 : Memref sig .tc .vmem SCodes .fp8e4m3) (harg5 : arg5.IsWhole) (arg6 : Memref sig .tc .vmem SHs .f32) (harg6 : arg6.IsWhole)
  (arg7 : Memref sig .tc .vmem SRow .f32) (harg7 : arg7.IsWhole) (arg8 : Memref sig .tc .vmem SAmax .f32) (harg8 : arg8.IsWhole)
  (x0 : Vec F SX .fp8e4m3) (x1 : Vec F SXs .f32) (x2 : Vec F SW .fp8e4m3) (x3 : Vec F SWs .f32)

set_option maxHeartbeats 27192000 in
/-- Stretch 13 of the body: what it gives and stores, with the proof that it runs so. -/
def stretch13 (f5 : arg5.view.ty.Contents (Elt F)) (f6 : arg6.view.ty.Contents (Elt F)) (f7 : arg7.view.ty.Contents (Elt F)) (f8 : arg8.view.ty.Contents (Elt F))
    (L5 : List (View.Piece (Elt F) SCodes .fp8e4m3)) (L6 : List (View.Piece (Elt F) SHs .f32)) (L8 : List (View.Piece (Elt F) SAmax .f32))
    (v28068 : IVec S8x128 1) (v29460 : FVec F S1x128 .f32) (v29462 : FVec F S1x128 .f32) (v29478 : IVec S1x128 32) (v29479 : IVec S1x128 32) :
    Σ' (r : (Σ' (v32034 : FVec F S1x128 .f32) (v32036 : FVec F S1x128 .f32) (v32062 : IVec S1x128 32), IVec S1x128 32)), Σ' (M5 : List (View.Piece (Elt F) SCodes .fp8e4m3)), Σ' (M6 : List (View.Piece (Elt F) SHs .f32)), { M8 : List (View.Piece (Elt F) SAmax .f32) //
      Runs c arg1 harg1 arg2 harg2 arg3 harg3 arg4 harg4 arg5 arg6 arg7 arg8 x0 x1 x2 x3 (k0_part798 i arg1 harg1 arg2 harg2 arg3 harg3 arg4 harg4 arg5 harg5 arg6 harg6 arg7 harg7 arg8 harg8 v28068 v29460 v29462 v29478 v29479) r
        (arg5.view.writes (Elt F) f5 L5) (arg6.view.writes (Elt F) f6 L6) f7 (arg8.view.writes (Elt F) f8 L8)
        (arg5.view.writes (Elt F) f5 M5) (arg6.view.writes (Elt F) f6 M6) f7 (arg8.view.writes (Elt F) f8 M8) } := by
  refine ⟨?_, ?_, ?_, ?_, fun E K => ?run⟩
  case run =>
    simp only [k0_part798_eq_skeleton, k0_part721_eq_skeleton, k0_part722_eq_skeleton, k0_part723_eq_skeleton, k0_part724_eq_skeleton, k0_part725_eq_skeleton, k0_part726_eq_skeleton, k0_part727_eq_skeleton, k0_part728_eq_skeleton, k0_part729_eq_skeleton, k0_part730_eq_skeleton, k0_part731_eq_skeleton, k0_part732_eq_skeleton, k0_part733_eq_skeleton, k0_part734_eq_skeleton, k0_part735_eq_skeleton, k0_part736_eq_skeleton, k0_part737_eq_skeleton, k0_part738_eq_skeleton, k0_part739_eq_skeleton, k0_part740_eq_skeleton, k0_part741_eq_skeleton, k0_part742_eq_skeleton, k0_part743_eq_skeleton, k0_part744_eq_skeleton, k0_part745_eq_skeleton, k0_part746_eq_skeleton, k0_part747_eq_skeleton, k0_part748_eq_skeleton, k0_part749_eq_skeleton, k0_part750_eq_skeleton, k0_part751_eq_skeleton, k0_part752_eq_skeleton, k0_part753_eq_skeleton, k0_part754_eq_skeleton, k0_part755_eq_skeleton, k0_part756_eq_skeleton, k0_part757_eq_skeleton, k0_part758_eq_skeleton, k0_part759_eq_skeleton, k0_part760_eq_skeleton, k0_part761_eq_skeleton, k0_part762_eq_skeleton, k0_part763_eq_skeleton, k0_part764_eq_skeleton, k0_part765_eq_skeleton, k0_part766_eq_skeleton, k0_part767_eq_skeleton, k0_part768_eq_skeleton, k0_part769_eq_skeleton, k0_part770_eq_skeleton, k0_part771_eq_skeleton, k0_part772_eq_skeleton, k0_part773_eq_skeleton, k0_part774_eq_skeleton, k0_part775_eq_skeleton, k0_part776_eq_skeleton, k0_part777_eq_skeleton, k0_part778_eq_skeleton, k0_part779_eq_skeleton, k0_part780_eq_skeleton]
    unfold Held
    iintro ⟨⟨H1, H2, H3, H4, H5, H6, H7, H8⟩, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.KernelIdeal.Hand

end
-- ==== Proof.KernelStretch14.lean ====
/- Stretch 14 of the kernel's body: its end. -/
module

public import proofs.«01_k».proof.Proof.KernelState

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem SX .fp8e4m3) (harg1 : arg1.IsWhole) (arg2 : Memref sig .tc .vmem SXs .f32) (harg2 : arg2.IsWhole)
  (arg3 : Memref sig .tc .vmem SW .fp8e4m3) (harg3 : arg3.IsWhole) (arg4 : Memref sig .tc .vmem SWs .f32) (harg4 : arg4.IsWhole)
  (arg5 : Memref sig .tc .vmem SCodes .fp8e4m3) (harg5 : arg5.IsWhole) (arg6 : Memref sig .tc .vmem SHs .f32) (harg6 : arg6.IsWhole)
  (arg7 : Memref sig .tc .vmem SRow .f32) (harg7 : arg7.IsWhole) (arg8 : Memref sig .tc .vmem SAmax .f32) (harg8 : arg8.IsWhole)
  (x0 : Vec F SX .fp8e4m3) (x1 : Vec F SXs .f32) (x2 : Vec F SW .fp8e4m3) (x3 : Vec F SWs .f32)

/-- The end of the body, after its thirteen stretches. -/
def ending (v28068 : IVec S8x128 1) (v32034 : FVec F S1x128 .f32) (v32036 : FVec F S1x128 .f32) (v32062 : IVec S1x128 32) (v32063 : IVec S1x128 32) : Prog (TpuEff nD τ sig (Elt F) Λ₀ .tc) PUnit := do
  let ⟨v32100, v32102, v32103⟩ : Σ' (v32100 : FVec F S1x128 .f32) (v32102 : FVec F S1x128 .f32), IVec S1x128 32 ← k0_part781 i arg1 harg1 arg2 harg2 arg3 harg3 arg4 harg4 arg5 harg5 arg6 harg6 arg7 harg7 arg8 harg8 v28068 v32034 v32036 v32062 v32063
  let ⟨v32147, v32149, v32151⟩ : Σ' (v32147 : IVec S1x128 32) (v32149 : IVec S1x128 1), IVec S1x128 1 ← k0_part782 i arg1 harg1 arg2 harg2 arg3 harg3 arg4 harg4 arg5 harg5 arg6 harg6 arg7 harg7 arg8 harg8 v32100 v32102 v32103
  let ⟨v32166, v32168, v32189, v32191, v32192⟩ : Σ' (v32166 : FVec F S1x128 .f32) (v32168 : FVec F S1x128 .f32) (v32189 : IVec S1x128 32) (v32191 : IVec S1x128 32), FVec F S1x128 .f32 ← k0_part783 i arg1 harg1 arg2 harg2 arg3 harg3 arg4 harg4 arg5 harg5 arg6 harg6 arg7 harg7 arg8 harg8 v28068 v32147 v32149 v32151
  let ⟨v32232, cst_13263⟩ : Σ' (v32232 : FVec F S1x128 .f32), F .f32 ← k0_part784 i arg1 harg1 arg2 harg2 arg3 harg3 arg4 harg4 arg5 harg5 arg6 harg6 arg7 harg7 arg8 harg8 v28068 v32166 v32168 v32189 v32191 v32192
  let ⟨v32279, v32280⟩ : Σ' (v32279 : IVec S1x128 32), IVec S1x128 32 ← k0_part785 i arg1 harg1 arg2 harg2 arg3 harg3 arg4 harg4 arg5 harg5 arg6 harg6 arg7 harg7 arg8 harg8 v32232 cst_13263
  let v32290 : Vec F S1x1x128 .f32 ← Prog.lift (.load arg6 (Rect.unit (s := S1x16x512) ![0, 15, 384] S1x1x128.size inb_S1x16x512_S1x1x128_0_15_384).toLoadRect (View.loadsAt_vmem h_S1x1x128))
  Prog.lift (.store arg6 (Rect.unit (s := S1x16x512) ![0, 15, 384] S1x1x128.size inb_S1x16x512_S1x1x128_0_15_384) (k0_pay1 (F := F) v32279 v32280) Finset.univ (View.stores_vmem_bits_univ h_S1x1x128 rfl) (.inl rfl))
  pure ⟨⟩

set_option maxHeartbeats 27192000 in
/-- Stretch 14 of the body, its end: what it stores, with the proof that it runs so. -/
def stretch14 (f5 : arg5.view.ty.Contents (Elt F)) (f6 : arg6.view.ty.Contents (Elt F)) (f7 : arg7.view.ty.Contents (Elt F)) (f8 : arg8.view.ty.Contents (Elt F))
    (L5 : List (View.Piece (Elt F) SCodes .fp8e4m3)) (L6 : List (View.Piece (Elt F) SHs .f32)) (L8 : List (View.Piece (Elt F) SAmax .f32))
    (v28068 : IVec S8x128 1) (v32034 : FVec F S1x128 .f32) (v32036 : FVec F S1x128 .f32) (v32062 : IVec S1x128 32) (v32063 : IVec S1x128 32) :
    Σ' (r : PUnit), Σ' (M5 : List (View.Piece (Elt F) SCodes .fp8e4m3)), Σ' (M6 : List (View.Piece (Elt F) SHs .f32)), { M8 : List (View.Piece (Elt F) SAmax .f32) //
      Runs c arg1 harg1 arg2 harg2 arg3 harg3 arg4 harg4 arg5 arg6 arg7 arg8 x0 x1 x2 x3 (ending i arg1 harg1 arg2 harg2 arg3 harg3 arg4 harg4 arg5 harg5 arg6 harg6 arg7 harg7 arg8 harg8 v28068 v32034 v32036 v32062 v32063) r
        (arg5.view.writes (Elt F) f5 L5) (arg6.view.writes (Elt F) f6 L6) f7 (arg8.view.writes (Elt F) f8 L8)
        (arg5.view.writes (Elt F) f5 M5) (arg6.view.writes (Elt F) f6 M6) f7 (arg8.view.writes (Elt F) f8 M8) } := by
  refine ⟨?_, ?_, ?_, ?_, fun E K => ?run⟩
  case run =>
    unfold ending
    simp only [k0_part781_eq_skeleton, k0_part782_eq_skeleton, k0_part783_eq_skeleton, k0_part784_eq_skeleton, k0_part785_eq_skeleton]
    unfold Held
    iintro ⟨⟨H1, H2, H3, H4, H5, H6, H7, H8⟩, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.KernelIdeal.Hand

end
-- ==== Proof.KernelChain.lean ====
/- The body of the kernel is its fourteen stretches, one after the other: their runs make its run. -/
module

public import proofs.«01_k».proof.Proof.KernelStretch01
public import proofs.«01_k».proof.Proof.KernelStretch02
public import proofs.«01_k».proof.Proof.KernelStretch03
public import proofs.«01_k».proof.Proof.KernelStretch04
public import proofs.«01_k».proof.Proof.KernelStretch05
public import proofs.«01_k».proof.Proof.KernelStretch06
public import proofs.«01_k».proof.Proof.KernelStretch07
public import proofs.«01_k».proof.Proof.KernelStretch08
public import proofs.«01_k».proof.Proof.KernelStretch09
public import proofs.«01_k».proof.Proof.KernelStretch10
public import proofs.«01_k».proof.Proof.KernelStretch11
public import proofs.«01_k».proof.Proof.KernelStretch12
public import proofs.«01_k».proof.Proof.KernelStretch13
public import proofs.«01_k».proof.Proof.KernelStretch14

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem SX .fp8e4m3) (harg1 : arg1.IsWhole) (arg2 : Memref sig .tc .vmem SXs .f32) (harg2 : arg2.IsWhole)
  (arg3 : Memref sig .tc .vmem SW .fp8e4m3) (harg3 : arg3.IsWhole) (arg4 : Memref sig .tc .vmem SWs .f32) (harg4 : arg4.IsWhole)
  (arg5 : Memref sig .tc .vmem SCodes .fp8e4m3) (harg5 : arg5.IsWhole) (arg6 : Memref sig .tc .vmem SHs .f32) (harg6 : arg6.IsWhole)
  (arg7 : Memref sig .tc .vmem SRow .f32) (harg7 : arg7.IsWhole) (arg8 : Memref sig .tc .vmem SAmax .f32) (harg8 : arg8.IsWhole)
  (x0 : Vec F SX .fp8e4m3) (x1 : Vec F SXs .f32) (x2 : Vec F SW .fp8e4m3) (x3 : Vec F SWs .f32)

/-! ## The body is its stretches, one after the other -/

/-- The stretches' runs, each from what the one before gives and leaves, are the body's run. -/
theorem runs_of
    (r1 : (Σ' (v0 : IVec S8x128 32) (v1 : IVec S8x128 32) (v1029 : FVec F S512x512 .f32) (v2296 : Vec F S32x128 .f32) (v2321 : FVec F S32x128 .f32), FVec F S8x8 .f32))
    (r2 : (Σ' (v4409 : FVec F S512x512 .f32) (v4832 : Vec F S32x128 .f32) (v4838 : FVec F S1x128 .f32) (v4841 : FVec F S32x128 .f32), FVec F S32x128 .f32))
    (r3 : (Σ' (v7278 : FVec F S32x128 .f32) (v7283 : FVec F S32x128 .f32) (v7285 : FVec F S32x128 .f32) (v7306 : IVec S32x128 32), BitVec 32))
    (r4 : (Σ' (v7789 : FVec F S512x512 .f32) (v9689 : Vec F S32x128 .f32) (v9709 : FVec F S32x128 .f32) (v9714 : FVec F S32x128 .f32) (v9761 : IVec S32x128 32), IVec S32x128 1))
    (r5 : (Σ' (v11169 : FVec F S512x512 .f32) (v12144 : FVec F S32x128 .f32), FVec F S8x8 .f32))
    (r6 : (Σ' (v14549 : FVec F S512x512 .f32) (v14664 : FVec F S32x128 .f32) (v14667 : FVec F S32x128 .f32), FVec F S32x128 .f32))
    (r7 : (Σ' (v17082 : Vec F S32x128 .f32) (v17102 : FVec F S32x128 .f32) (v17107 : FVec F S32x128 .f32) (v17109 : FVec F S32x128 .f32) (v17130 : IVec S32x128 32) (v17132 : IVec S32x128 32), FVec F S32x128 .f32))
    (r8 : (Σ' (v17929 : FVec F S512x512 .f32) (v19532 : FVec F S32x128 .f32) (v19537 : FVec F S32x128 .f32), IVec S32x128 32))
    (r9 : (Σ' (v21309 : FVec F S512x512 .f32) (v21943 : Vec F S32x128 .f32) (v21968 : FVec F S32x128 .f32), FVec F S8x8 .f32))
    (r10 : (Σ' (v24475 : Vec F S32x128 .f32) (v24495 : FVec F S32x128 .f32), FVec F S32x128 .f32))
    (r11 : (Σ' (v24689 : FVec F S512x512 .f32) (v26925 : FVec F S32x128 .f32) (v26930 : FVec F S32x128 .f32) (v26932 : FVec F S32x128 .f32) (v26958 : IVec S32x128 32) (v26960 : IVec S32x128 32), FVec F S32x128 .f32))
    (r12 : (Σ' (v28068 : IVec S8x128 1) (v29460 : FVec F S1x128 .f32) (v29462 : FVec F S1x128 .f32) (v29478 : IVec S1x128 32), IVec S1x128 32))
    (r13 : (Σ' (v32034 : FVec F S1x128 .f32) (v32036 : FVec F S1x128 .f32) (v32062 : IVec S1x128 32), IVec S1x128 32))
    {d5_0 d5_1 d5_2 d5_3 d5_4 d5_5 d5_6 d5_7 d5_8 d5_9 d5_10 d5_11 d5_12 d5_13 d5_14 : arg5.view.ty.Contents (Elt F)}
    {d6_0 d6_1 d6_2 d6_3 d6_4 d6_5 d6_6 d6_7 d6_8 d6_9 d6_10 d6_11 d6_12 d6_13 d6_14 : arg6.view.ty.Contents (Elt F)}
    {d7_0 d7_1 d7_2 d7_3 d7_4 d7_5 d7_6 d7_7 d7_8 d7_9 d7_10 d7_11 d7_12 d7_13 d7_14 : arg7.view.ty.Contents (Elt F)}
    {d8_0 d8_1 d8_2 d8_3 d8_4 d8_5 d8_6 d8_7 d8_8 d8_9 d8_10 d8_11 d8_12 d8_13 d8_14 : arg8.view.ty.Contents (Elt F)}
    (h1 : Runs c arg1 harg1 arg2 harg2 arg3 harg3 arg4 harg4 arg5 arg6 arg7 arg8 x0 x1 x2 x3 (k0_part786 i arg1 harg1 arg2 harg2 arg3 harg3 arg4 harg4 arg5 harg5 arg6 harg6 arg7 harg7 arg8 harg8) r1 d5_0 d6_0 d7_0 d8_0 d5_1 d6_1 d7_1 d8_1)
    (h2 : Runs c arg1 harg1 arg2 harg2 arg3 harg3 arg4 harg4 arg5 arg6 arg7 arg8 x0 x1 x2 x3 (k0_part787 i arg1 harg1 arg2 harg2 arg3 harg3 arg4 harg4 arg5 harg5 arg6 harg6 arg7 harg7 arg8 harg8 r1.2.2.1 r1.2.2.2.1 r1.2.2.2.2.1 r1.2.2.2.2.2) r2 d5_1 d6_1 d7_1 d8_1 d5_2 d6_2 d7_2 d8_2)
    (h3 : Runs c arg1 harg1 arg2 harg2 arg3 harg3 arg4 harg4 arg5 arg6 arg7 arg8 x0 x1 x2 x3 (k0_part788 i arg1 harg1 arg2 harg2 arg3 harg3 arg4 harg4 arg5 harg5 arg6 harg6 arg7 harg7 arg8 harg8 r2.1 r2.2.1 r2.2.2.1 r2.2.2.2.1 r2.2.2.2.2) r3 d5_2 d6_2 d7_2 d8_2 d5_3 d6_3 d7_3 d8_3)
    (h4 : Runs c arg1 harg1 arg2 harg2 arg3 harg3 arg4 harg4 arg5 arg6 arg7 arg8 x0 x1 x2 x3 (k0_part789 i arg1 harg1 arg2 harg2 arg3 harg3 arg4 harg4 arg5 harg5 arg6 harg6 arg7 harg7 arg8 harg8 r2.1 r3.1 r3.2.1 r3.2.2.1 r3.2.2.2.1 r3.2.2.2.2) r4 d5_3 d6_3 d7_3 d8_3 d5_4 d6_4 d7_4 d8_4)
    (h5 : Runs c arg1 harg1 arg2 harg2 arg3 harg3 arg4 harg4 arg5 arg6 arg7 arg8 x0 x1 x2 x3 (k0_part790 i arg1 harg1 arg2 harg2 arg3 harg3 arg4 harg4 arg5 harg5 arg6 harg6 arg7 harg7 arg8 harg8 r4.1 r4.2.1 r4.2.2.1 r4.2.2.2.1 r4.2.2.2.2.1 r4.2.2.2.2.2) r5 d5_4 d6_4 d7_4 d8_4 d5_5 d6_5 d7_5 d8_5)
    (h6 : Runs c arg1 harg1 arg2 harg2 arg3 harg3 arg4 harg4 arg5 arg6 arg7 arg8 x0 x1 x2 x3 (k0_part791 i arg1 harg1 arg2 harg2 arg3 harg3 arg4 harg4 arg5 harg5 arg6 harg6 arg7 harg7 arg8 harg8 r5.1 r5.2.1 r5.2.2) r6 d5_5 d6_5 d7_5 d8_5 d5_6 d6_6 d7_6 d8_6)
    (h7 : Runs c arg1 harg1 arg2 harg2 arg3 harg3 arg4 harg4 arg5 arg6 arg7 arg8 x0 x1 x2 x3 (k0_part792 i arg1 harg1 arg2 harg2 arg3 harg3 arg4 harg4 arg5 harg5 arg6 harg6 arg7 harg7 arg8 harg8 r6.1 r6.2.1 r6.2.2.1 r6.2.2.2) r7 d5_6 d6_6 d7_6 d8_6 d5_7 d6_7 d7_7 d8_7)
    (h8 : Runs c arg1 harg1 arg2 harg2 arg3 harg3 arg4 harg4 arg5 arg6 arg7 arg8 x0 x1 x2 x3 (k0_part793 i arg1 harg1 arg2 harg2 arg3 harg3 arg4 harg4 arg5 harg5 arg6 harg6 arg7 harg7 arg8 harg8 r6.1 r7.1 r7.2.1 r7.2.2.1 r7.2.2.2.1 r7.2.2.2.2.1 r7.2.2.2.2.2.1 r7.2.2.2.2.2.2) r8 d5_7 d6_7 d7_7 d8_7 d5_8 d6_8 d7_8 d8_8)
    (h9 : Runs c arg1 harg1 arg2 harg2 arg3 harg3 arg4 harg4 arg5 arg6 arg7 arg8 x0 x1 x2 x3 (k0_part794 i arg1 harg1 arg2 harg2 arg3 harg3 arg4 harg4 arg5 harg5 arg6 harg6 arg7 harg7 arg8 harg8 r8.1 r8.2.1 r8.2.2.1 r8.2.2.2) r9 d5_8 d6_8 d7_8 d8_8 d5_9 d6_9 d7_9 d8_9)
    (h10 : Runs c arg1 harg1 arg2 harg2 arg3 harg3 arg4 harg4 arg5 arg6 arg7 arg8 x0 x1 x2 x3 (k0_part795 i arg1 harg1 arg2 harg2 arg3 harg3 arg4 harg4 arg5 harg5 arg6 harg6 arg7 harg7 arg8 harg8 r9.1 r9.2.1 r9.2.2.1 r9.2.2.2) r10 d5_9 d6_9 d7_9 d8_9 d5_10 d6_10 d7_10 d8_10)
    (h11 : Runs c arg1 harg1 arg2 harg2 arg3 harg3 arg4 harg4 arg5 arg6 arg7 arg8 x0 x1 x2 x3 (k0_part796 i arg1 harg1 arg2 harg2 arg3 harg3 arg4 harg4 arg5 harg5 arg6 harg6 arg7 harg7 arg8 harg8 r9.1 r10.1 r10.2.1 r10.2.2) r11 d5_10 d6_10 d7_10 d8_10 d5_11 d6_11 d7_11 d8_11)
    (h12 : Runs c arg1 harg1 arg2 harg2 arg3 harg3 arg4 harg4 arg5 arg6 arg7 arg8 x0 x1 x2 x3 (k0_part797 i arg1 harg1 arg2 harg2 arg3 harg3 arg4 harg4 arg5 harg5 arg6 harg6 arg7 harg7 arg8 harg8 r1.1 r1.2.1 r11.1 r11.2.1 r11.2.2.1 r11.2.2.2.1 r11.2.2.2.2.1 r11.2.2.2.2.2.1 r11.2.2.2.2.2.2) r12 d5_11 d6_11 d7_11 d8_11 d5_12 d6_12 d7_12 d8_12)
    (h13 : Runs c arg1 harg1 arg2 harg2 arg3 harg3 arg4 harg4 arg5 arg6 arg7 arg8 x0 x1 x2 x3 (k0_part798 i arg1 harg1 arg2 harg2 arg3 harg3 arg4 harg4 arg5 harg5 arg6 harg6 arg7 harg7 arg8 harg8 r12.1 r12.2.1 r12.2.2.1 r12.2.2.2.1 r12.2.2.2.2) r13 d5_12 d6_12 d7_12 d8_12 d5_13 d6_13 d7_13 d8_13)
    (h14 : Runs c arg1 harg1 arg2 harg2 arg3 harg3 arg4 harg4 arg5 arg6 arg7 arg8 x0 x1 x2 x3 (ending i arg1 harg1 arg2 harg2 arg3 harg3 arg4 harg4 arg5 harg5 arg6 harg6 arg7 harg7 arg8 harg8 r12.1 r13.1 r13.2.1 r13.2.2.1 r13.2.2.2) PUnit.unit d5_13 d6_13 d7_13 d8_13 d5_14 d6_14 d7_14 d8_14) :
    Runs c arg1 harg1 arg2 harg2 arg3 harg3 arg4 harg4 arg5 arg6 arg7 arg8 x0 x1 x2 x3 (cc0_swiglu_fp8 i arg1 harg1 arg2 harg2 arg3 harg3 arg4 harg4 arg5 harg5 arg6 harg6 arg7 harg7 arg8 harg8) PUnit.unit d5_0 d6_0 d7_0 d8_0 d5_14 d6_14 d7_14 d8_14 := by
  rw [cc0_swiglu_fp8_eq_skeleton]
  unfold cc0_swiglu_fp8_skel
  refine Runs.bind c arg1 harg1 arg2 harg2 arg3 harg3 arg4 harg4 arg5 arg6 arg7 arg8 x0 x1 x2 x3 h1 ?_
  refine Runs.bind c arg1 harg1 arg2 harg2 arg3 harg3 arg4 harg4 arg5 arg6 arg7 arg8 x0 x1 x2 x3 h2 ?_
  refine Runs.bind c arg1 harg1 arg2 harg2 arg3 harg3 arg4 harg4 arg5 arg6 arg7 arg8 x0 x1 x2 x3 h3 ?_
  refine Runs.bind c arg1 harg1 arg2 harg2 arg3 harg3 arg4 harg4 arg5 arg6 arg7 arg8 x0 x1 x2 x3 h4 ?_
  refine Runs.bind c arg1 harg1 arg2 harg2 arg3 harg3 arg4 harg4 arg5 arg6 arg7 arg8 x0 x1 x2 x3 h5 ?_
  refine Runs.bind c arg1 harg1 arg2 harg2 arg3 harg3 arg4 harg4 arg5 arg6 arg7 arg8 x0 x1 x2 x3 h6 ?_
  refine Runs.bind c arg1 harg1 arg2 harg2 arg3 harg3 arg4 harg4 arg5 arg6 arg7 arg8 x0 x1 x2 x3 h7 ?_
  refine Runs.bind c arg1 harg1 arg2 harg2 arg3 harg3 arg4 harg4 arg5 arg6 arg7 arg8 x0 x1 x2 x3 h8 ?_
  refine Runs.bind c arg1 harg1 arg2 harg2 arg3 harg3 arg4 harg4 arg5 arg6 arg7 arg8 x0 x1 x2 x3 h9 ?_
  refine Runs.bind c arg1 harg1 arg2 harg2 arg3 harg3 arg4 harg4 arg5 arg6 arg7 arg8 x0 x1 x2 x3 h10 ?_
  refine Runs.bind c arg1 harg1 arg2 harg2 arg3 harg3 arg4 harg4 arg5 arg6 arg7 arg8 x0 x1 x2 x3 h11 ?_
  refine Runs.bind c arg1 harg1 arg2 harg2 arg3 harg3 arg4 harg4 arg5 arg6 arg7 arg8 x0 x1 x2 x3 h12 ?_
  refine Runs.bind c arg1 harg1 arg2 harg2 arg3 harg3 arg4 harg4 arg5 arg6 arg7 arg8 x0 x1 x2 x3 h13 ?_
  exact h14

variable (f5 : arg5.view.ty.Contents (Elt F)) (f6 : arg6.view.ty.Contents (Elt F)) (f7 : arg7.view.ty.Contents (Elt F)) (f8 : arg8.view.ty.Contents (Elt F))

/-! ## The chain of the stretches -/

/-- What stretch 1 stores. -/
def at1 := stretch1 c i arg1 harg1 arg2 harg2 arg3 harg3 arg4 harg4 arg5 harg5 arg6 harg6 arg7 harg7 arg8 harg8 x0 x1 x2 x3 f5 f6 f7 f8 [] [] []
/-- The scratch of the rows' scales once stored. -/
def rows7 : arg7.view.ty.Contents (Elt F) := arg7.view.writes (Elt F) f7 (at1 c i arg1 harg1 arg2 harg2 arg3 harg3 arg4 harg4 arg5 harg5 arg6 harg6 arg7 harg7 arg8 harg8 x0 x1 x2 x3 f5 f6 f7 f8).2.2.2.1
/-- What stretch 2 stores, started from what the stretches before it left. -/
def at2 := stretch2 c i arg1 harg1 arg2 harg2 arg3 harg3 arg4 harg4 arg5 harg5 arg6 harg6 arg7 harg7 arg8 harg8 x0 x1 x2 x3 f5 f6 (rows7 c i arg1 harg1 arg2 harg2 arg3 harg3 arg4 harg4 arg5 harg5 arg6 harg6 arg7 harg7 arg8 harg8 x0 x1 x2 x3 f5 f6 f7 f8) f8 (at1 c i arg1 harg1 arg2 harg2 arg3 harg3 arg4 harg4 arg5 harg5 arg6 harg6 arg7 harg7 arg8 harg8 x0 x1 x2 x3 f5 f6 f7 f8).2.1 (at1 c i arg1 harg1 arg2 harg2 arg3 harg3 arg4 harg4 arg5 harg5 arg6 harg6 arg7 harg7 arg8 harg8 x0 x1 x2 x3 f5 f6 f7 f8).2.2.1 (at1 c i arg1 harg1 arg2 harg2 arg3 harg3 arg4 harg4 arg5 harg5 arg6 harg6 arg7 harg7 arg8 harg8 x0 x1 x2 x3 f5 f6 f7 f8).2.2.2.2.1 (at1 c i arg1 harg1 arg2 harg2 arg3 harg3 arg4 harg4 arg5 harg5 arg6 harg6 arg7 harg7 arg8 harg8 x0 x1 x2 x3 f5 f6 f7 f8).1.2.2.1 (at1 c i arg1 harg1 arg2 harg2 arg3 harg3 arg4 harg4 arg5 harg5 arg6 harg6 arg7 harg7 arg8 harg8 x0 x1 x2 x3 f5 f6 f7 f8).1.2.2.2.1 (at1 c i arg1 harg1 arg2 harg2 arg3 harg3 arg4 harg4 arg5 harg5 arg6 harg6 arg7 harg7 arg8 harg8 x0 x1 x2 x3 f5 f6 f7 f8).1.2.2.2.2.1 (at1 c i arg1 harg1 arg2 harg2 arg3 harg3 arg4 harg4 arg5 harg5 arg6 harg6 arg7 harg7 arg8 harg8 x0 x1 x2 x3 f5 f6 f7 f8).1.2.2.2.2.2
/-- What stretch 3 stores, started from what the stretches before it left. -/
def at3 := stretch3 c i arg1 harg1 arg2 harg2 arg3 harg3 arg4 harg4 arg5 harg5 arg6 harg6 arg7 harg7 arg8 harg8 x0 x1 x2 x3 f5 f6 (rows7 c i arg1 harg1 arg2 harg2 arg3 harg3 arg4 harg4 arg5 harg5 arg6 harg6 arg7 harg7 arg8 harg8 x0 x1 x2 x3 f5 f6 f7 f8) f8 (at2 c i arg1 harg1 arg2 harg2 arg3 harg3 arg4 harg4 arg5 harg5 arg6 harg6 arg7 harg7 arg8 harg8 x0 x1 x2 x3 f5 f6 f7 f8).2.1 (at2 c i arg1 harg1 arg2 harg2 arg3 harg3 arg4 harg4 arg5 harg5 arg6 harg6 arg7 harg7 arg8 harg8 x0 x1 x2 x3 f5 f6 f7 f8).2.2.1 (at2 c i arg1 harg1 arg2 harg2 arg3 harg3 arg4 harg4 arg5 harg5 arg6 harg6 arg7 harg7 arg8 harg8 x0 x1 x2 x3 f5 f6 f7 f8).2.2.2.1 (at2 c i arg1 harg1 arg2 harg2 arg3 harg3 arg4 harg4 arg5 harg5 arg6 harg6 arg7 harg7 arg8 harg8 x0 x1 x2 x3 f5 f6 f7 f8).1.1 (at2 c i arg1 harg1 arg2 harg2 arg3 harg3 arg4 harg4 arg5 harg5 arg6 harg6 arg7 harg7 arg8 harg8 x0 x1 x2 x3 f5 f6 f7 f8).1.2.1 (at2 c i arg1 harg1 arg2 harg2 arg3 harg3 arg4 harg4 arg5 harg5 arg6 harg6 arg7 harg7 arg8 harg8 x0 x1 x2 x3 f5 f6 f7 f8).1.2.2.1 (at2 c i arg1 harg1 arg2 harg2 arg3 harg3 arg4 harg4 arg5 harg5 arg6 harg6 arg7 harg7 arg8 harg8 x0 x1 x2 x3 f5 f6 f7 f8).1.2.2.2.1 (at2 c i arg1 harg1 arg2 harg2 arg3 harg3 arg4 harg4 arg5 harg5 arg6 harg6 arg7 harg7 arg8 harg8 x0 x1 x2 x3 f5 f6 f7 f8).1.2.2.2.2
/-- What stretch 4 stores, started from what the stretches before it left. -/
def at4 := stretch4 c i arg1 harg1 arg2 harg2 arg3 harg3 arg4 harg4 arg5 harg5 arg6 harg6 arg7 harg7 arg8 harg8 x0 x1 x2 x3 f5 f6 (rows7 c i arg1 harg1 arg2 harg2 arg3 harg3 arg4 harg4 arg5 harg5 arg6 harg6 arg7 harg7 arg8 harg8 x0 x1 x2 x3 f5 f6 f7 f8) f8 (at3 c i arg1 harg1 arg2 harg2 arg3 harg3 arg4 harg4 arg5 harg5 arg6 harg6 arg7 harg7 arg8 harg8 x0 x1 x2 x3 f5 f6 f7 f8).2.1 (at3 c i arg1 harg1 arg2 harg2 arg3 harg3 arg4 harg4 arg5 harg5 arg6 harg6 arg7 harg7 arg8 harg8 x0 x1 x2 x3 f5 f6 f7 f8).2.2.1 (at3 c i arg1 harg1 arg2 harg2 arg3 harg3 arg4 harg4 arg5 harg5 arg6 harg6 arg7 harg7 arg8 harg8 x0 x1 x2 x3 f5 f6 f7 f8).2.2.2.1 (at2 c i arg1 harg1 arg2 harg2 arg3 harg3 arg4 harg4 arg5 harg5 arg6 harg6 arg7 harg7 arg8 harg8 x0 x1 x2 x3 f5 f6 f7 f8).1.1 (at3 c i arg1 harg1 arg2 harg2 arg3 harg3 arg4 harg4 arg5 harg5 arg6 harg6 arg7 harg7 arg8 harg8 x0 x1 x2 x3 f5 f6 f7 f8).1.1 (at3 c i arg1 harg1 arg2 harg2 arg3 harg3 arg4 harg4 arg5 harg5 arg6 harg6 arg7 harg7 arg8 harg8 x0 x1 x2 x3 f5 f6 f7 f8).1.2.1 (at3 c i arg1 harg1 arg2 harg2 arg3 harg3 arg4 harg4 arg5 harg5 arg6 harg6 arg7 harg7 arg8 harg8 x0 x1 x2 x3 f5 f6 f7 f8).1.2.2.1 (at3 c i arg1 harg1 arg2 harg2 arg3 harg3 arg4 harg4 arg5 harg5 arg6 harg6 arg7 harg7 arg8 harg8 x0 x1 x2 x3 f5 f6 f7 f8).1.2.2.2.1 (at3 c i arg1 harg1 arg2 harg2 arg3 harg3 arg4 harg4 arg5 harg5 arg6 harg6 arg7 harg7 arg8 harg8 x0 x1 x2 x3 f5 f6 f7 f8).1.2.2.2.2
/-- What stretch 5 stores, started from what the stretches before it left. -/
def at5 := stretch5 c i arg1 harg1 arg2 harg2 arg3 harg3 arg4 harg4 arg5 harg5 arg6 harg6 arg7 harg7 arg8 harg8 x0 x1 x2 x3 f5 f6 (rows7 c i arg1 harg1 arg2 harg2 arg3 harg3 arg4 harg4 arg5 harg5 arg6 harg6 arg7 harg7 arg8 harg8 x0 x1 x2 x3 f5 f6 f7 f8) f8 (at4 c i arg1 harg1 arg2 harg2 arg3 harg3 arg4 harg4 arg5 harg5 arg6 harg6 arg7 harg7 arg8 harg8 x0 x1 x2 x3 f5 f6 f7 f8).2.1 (at4 c i arg1 harg1 arg2 harg2 arg3 harg3 arg4 harg4 arg5 harg5 arg6 harg6 arg7 harg7 arg8 harg8 x0 x1 x2 x3 f5 f6 f7 f8).2.2.1 (at4 c i arg1 harg1 arg2 harg2 arg3 harg3 arg4 harg4 arg5 harg5 arg6 harg6 arg7 harg7 arg8 harg8 x0 x1 x2 x3 f5 f6 f7 f8).2.2.2.1 (at4 c i arg1 harg1 arg2 harg2 arg3 harg3 arg4 harg4 arg5 harg5 arg6 harg6 arg7 harg7 arg8 harg8 x0 x1 x2 x3 f5 f6 f7 f8).1.1 (at4 c i arg1 harg1 arg2 harg2 arg3 harg3 arg4 harg4 arg5 harg5 arg6 harg6 arg7 harg7 arg8 harg8 x0 x1 x2 x3 f5 f6 f7 f8).1.2.1 (at4 c i arg1 harg1 arg2 harg2 arg3 harg3 arg4 harg4 arg5 harg5 arg6 harg6 arg7 harg7 arg8 harg8 x0 x1 x2 x3 f5 f6 f7 f8).1.2.2.1 (at4 c i arg1 harg1 arg2 harg2 arg3 harg3 arg4 harg4 arg5 harg5 arg6 harg6 arg7 harg7 arg8 harg8 x0 x1 x2 x3 f5 f6 f7 f8).1.2.2.2.1 (at4 c i arg1 harg1 arg2 harg2 arg3 harg3 arg4 harg4 arg5 harg5 arg6 harg6 arg7 harg7 arg8 harg8 x0 x1 x2 x3 f5 f6 f7 f8).1.2.2.2.2.1 (at4 c i arg1 harg1 arg2 harg2 arg3 harg3 arg4 harg4 arg5 harg5 arg6 harg6 arg7 harg7 arg8 harg8 x0 x1 x2 x3 f5 f6 f7 f8).1.2.2.2.2.2
/-- What stretch 6 stores, started from what the stretches before it left. -/
def at6 := stretch6 c i arg1 harg1 arg2 harg2 arg3 harg3 arg4 harg4 arg5 harg5 arg6 harg6 arg7 harg7 arg8 harg8 x0 x1 x2 x3 f5 f6 (rows7 c i arg1 harg1 arg2 harg2 arg3 harg3 arg4 harg4 arg5 harg5 arg6 harg6 arg7 harg7 arg8 harg8 x0 x1 x2 x3 f5 f6 f7 f8) f8 (at5 c i arg1 harg1 arg2 harg2 arg3 harg3 arg4 harg4 arg5 harg5 arg6 harg6 arg7 harg7 arg8 harg8 x0 x1 x2 x3 f5 f6 f7 f8).2.1 (at5 c i arg1 harg1 arg2 harg2 arg3 harg3 arg4 harg4 arg5 harg5 arg6 harg6 arg7 harg7 arg8 harg8 x0 x1 x2 x3 f5 f6 f7 f8).2.2.1 (at5 c i arg1 harg1 arg2 harg2 arg3 harg3 arg4 harg4 arg5 harg5 arg6 harg6 arg7 harg7 arg8 harg8 x0 x1 x2 x3 f5 f6 f7 f8).2.2.2.1 (at5 c i arg1 harg1 arg2 harg2 arg3 harg3 arg4 harg4 arg5 harg5 arg6 harg6 arg7 harg7 arg8 harg8 x0 x1 x2 x3 f5 f6 f7 f8).1.1 (at5 c i arg1 harg1 arg2 harg2 arg3 harg3 arg4 harg4 arg5 harg5 arg6 harg6 arg7 harg7 arg8 harg8 x0 x1 x2 x3 f5 f6 f7 f8).1.2.1 (at5 c i arg1 harg1 arg2 harg2 arg3 harg3 arg4 harg4 arg5 harg5 arg6 harg6 arg7 harg7 arg8 harg8 x0 x1 x2 x3 f5 f6 f7 f8).1.2.2
/-- What stretch 7 stores, started from what the stretches before it left. -/
def at7 := stretch7 c i arg1 harg1 arg2 harg2 arg3 harg3 arg4 harg4 arg5 harg5 arg6 harg6 arg7 harg7 arg8 harg8 x0 x1 x2 x3 f5 f6 (rows7 c i arg1 harg1 arg2 harg2 arg3 harg3 arg4 harg4 arg5 harg5 arg6 harg6 arg7 harg7 arg8 harg8 x0 x1 x2 x3 f5 f6 f7 f8) f8 (at6 c i arg1 harg1 arg2 harg2 arg3 harg3 arg4 harg4 arg5 harg5 arg6 harg6 arg7 harg7 arg8 harg8 x0 x1 x2 x3 f5 f6 f7 f8).2.1 (at6 c i arg1 harg1 arg2 harg2 arg3 harg3 arg4 harg4 arg5 harg5 arg6 harg6 arg7 harg7 arg8 harg8 x0 x1 x2 x3 f5 f6 f7 f8).2.2.1 (at6 c i arg1 harg1 arg2 harg2 arg3 harg3 arg4 harg4 arg5 harg5 arg6 harg6 arg7 harg7 arg8 harg8 x0 x1 x2 x3 f5 f6 f7 f8).2.2.2.1 (at6 c i arg1 harg1 arg2 harg2 arg3 harg3 arg4 harg4 arg5 harg5 arg6 harg6 arg7 harg7 arg8 harg8 x0 x1 x2 x3 f5 f6 f7 f8).1.1 (at6 c i arg1 harg1 arg2 harg2 arg3 harg3 arg4 harg4 arg5 harg5 arg6 harg6 arg7 harg7 arg8 harg8 x0 x1 x2 x3 f5 f6 f7 f8).1.2.1 (at6 c i arg1 harg1 arg2 harg2 arg3 harg3 arg4 harg4 arg5 harg5 arg6 harg6 arg7 harg7 arg8 harg8 x0 x1 x2 x3 f5 f6 f7 f8).1.2.2.1 (at6 c i arg1 harg1 arg2 harg2 arg3 harg3 arg4 harg4 arg5 harg5 arg6 harg6 arg7 harg7 arg8 harg8 x0 x1 x2 x3 f5 f6 f7 f8).1.2.2.2
/-- What stretch 8 stores, started from what the stretches before it left. -/
def at8 := stretch8 c i arg1 harg1 arg2 harg2 arg3 harg3 arg4 harg4 arg5 harg5 arg6 harg6 arg7 harg7 arg8 harg8 x0 x1 x2 x3 f5 f6 (rows7 c i arg1 harg1 arg2 harg2 arg3 harg3 arg4 harg4 arg5 harg5 arg6 harg6 arg7 harg7 arg8 harg8 x0 x1 x2 x3 f5 f6 f7 f8) f8 (at7 c i arg1 harg1 arg2 harg2 arg3 harg3 arg4 harg4 arg5 harg5 arg6 harg6 arg7 harg7 arg8 harg8 x0 x1 x2 x3 f5 f6 f7 f8).2.1 (at7 c i arg1 harg1 arg2 harg2 arg3 harg3 arg4 harg4 arg5 harg5 arg6 harg6 arg7 harg7 arg8 harg8 x0 x1 x2 x3 f5 f6 f7 f8).2.2.1 (at7 c i arg1 harg1 arg2 harg2 arg3 harg3 arg4 harg4 arg5 harg5 arg6 harg6 arg7 harg7 arg8 harg8 x0 x1 x2 x3 f5 f6 f7 f8).2.2.2.1 (at6 c i arg1 harg1 arg2 harg2 arg3 harg3 arg4 harg4 arg5 harg5 arg6 harg6 arg7 harg7 arg8 harg8 x0 x1 x2 x3 f5 f6 f7 f8).1.1 (at7 c i arg1 harg1 arg2 harg2 arg3 harg3 arg4 harg4 arg5 harg5 arg6 harg6 arg7 harg7 arg8 harg8 x0 x1 x2 x3 f5 f6 f7 f8).1.1 (at7 c i arg1 harg1 arg2 harg2 arg3 harg3 arg4 harg4 arg5 harg5 arg6 harg6 arg7 harg7 arg8 harg8 x0 x1 x2 x3 f5 f6 f7 f8).1.2.1 (at7 c i arg1 harg1 arg2 harg2 arg3 harg3 arg4 harg4 arg5 harg5 arg6 harg6 arg7 harg7 arg8 harg8 x0 x1 x2 x3 f5 f6 f7 f8).1.2.2.1 (at7 c i arg1 harg1 arg2 harg2 arg3 harg3 arg4 harg4 arg5 harg5 arg6 harg6 arg7 harg7 arg8 harg8 x0 x1 x2 x3 f5 f6 f7 f8).1.2.2.2.1 (at7 c i arg1 harg1 arg2 harg2 arg3 harg3 arg4 harg4 arg5 harg5 arg6 harg6 arg7 harg7 arg8 harg8 x0 x1 x2 x3 f5 f6 f7 f8).1.2.2.2.2.1 (at7 c i arg1 harg1 arg2 harg2 arg3 harg3 arg4 harg4 arg5 harg5 arg6 harg6 arg7 harg7 arg8 harg8 x0 x1 x2 x3 f5 f6 f7 f8).1.2.2.2.2.2.1 (at7 c i arg1 harg1 arg2 harg2 arg3 harg3 arg4 harg4 arg5 harg5 arg6 harg6 arg7 harg7 arg8 harg8 x0 x1 x2 x3 f5 f6 f7 f8).1.2.2.2.2.2.2
/-- What stretch 9 stores, started from what the stretches before it left. -/
def at9 := stretch9 c i arg1 harg1 arg2 harg2 arg3 harg3 arg4 harg4 arg5 harg5 arg6 harg6 arg7 harg7 arg8 harg8 x0 x1 x2 x3 f5 f6 (rows7 c i arg1 harg1 arg2 harg2 arg3 harg3 arg4 harg4 arg5 harg5 arg6 harg6 arg7 harg7 arg8 harg8 x0 x1 x2 x3 f5 f6 f7 f8) f8 (at8 c i arg1 harg1 arg2 harg2 arg3 harg3 arg4 harg4 arg5 harg5 arg6 harg6 arg7 harg7 arg8 harg8 x0 x1 x2 x3 f5 f6 f7 f8).2.1 (at8 c i arg1 harg1 arg2 harg2 arg3 harg3 arg4 harg4 arg5 harg5 arg6 harg6 arg7 harg7 arg8 harg8 x0 x1 x2 x3 f5 f6 f7 f8).2.2.1 (at8 c i arg1 harg1 arg2 harg2 arg3 harg3 arg4 harg4 arg5 harg5 arg6 harg6 arg7 harg7 arg8 harg8 x0 x1 x2 x3 f5 f6 f7 f8).2.2.2.1 (at8 c i arg1 harg1 arg2 harg2 arg3 harg3 arg4 harg4 arg5 harg5 arg6 harg6 arg7 harg7 arg8 harg8 x0 x1 x2 x3 f5 f6 f7 f8).1.1 (at8 c i arg1 harg1 arg2 harg2 arg3 harg3 arg4 harg4 arg5 harg5 arg6 harg6 arg7 harg7 arg8 harg8 x0 x1 x2 x3 f5 f6 f7 f8).1.2.1 (at8 c i arg1 harg1 arg2 harg2 arg3 harg3 arg4 harg4 arg5 harg5 arg6 harg6 arg7 harg7 arg8 harg8 x0 x1 x2 x3 f5 f6 f7 f8).1.2.2.1 (at8 c i arg1 harg1 arg2 harg2 arg3 harg3 arg4 harg4 arg5 harg5 arg6 harg6 arg7 harg7 arg8 harg8 x0 x1 x2 x3 f5 f6 f7 f8).1.2.2.2
/-- What stretch 10 stores, started from what the stretches before it left. -/
def at10 := stretch10 c i arg1 harg1 arg2 harg2 arg3 harg3 arg4 harg4 arg5 harg5 arg6 harg6 arg7 harg7 arg8 harg8 x0 x1 x2 x3 f5 f6 (rows7 c i arg1 harg1 arg2 harg2 arg3 harg3 arg4 harg4 arg5 harg5 arg6 harg6 arg7 harg7 arg8 harg8 x0 x1 x2 x3 f5 f6 f7 f8) f8 (at9 c i arg1 harg1 arg2 harg2 arg3 harg3 arg4 harg4 arg5 harg5 arg6 harg6 arg7 harg7 arg8 harg8 x0 x1 x2 x3 f5 f6 f7 f8).2.1 (at9 c i arg1 harg1 arg2 harg2 arg3 harg3 arg4 harg4 arg5 harg5 arg6 harg6 arg7 harg7 arg8 harg8 x0 x1 x2 x3 f5 f6 f7 f8).2.2.1 (at9 c i arg1 harg1 arg2 harg2 arg3 harg3 arg4 harg4 arg5 harg5 arg6 harg6 arg7 harg7 arg8 harg8 x0 x1 x2 x3 f5 f6 f7 f8).2.2.2.1 (at9 c i arg1 harg1 arg2 harg2 arg3 harg3 arg4 harg4 arg5 harg5 arg6 harg6 arg7 harg7 arg8 harg8 x0 x1 x2 x3 f5 f6 f7 f8).1.1 (at9 c i arg1 harg1 arg2 harg2 arg3 harg3 arg4 harg4 arg5 harg5 arg6 harg6 arg7 harg7 arg8 harg8 x0 x1 x2 x3 f5 f6 f7 f8).1.2.1 (at9 c i arg1 harg1 arg2 harg2 arg3 harg3 arg4 harg4 arg5 harg5 arg6 harg6 arg7 harg7 arg8 harg8 x0 x1 x2 x3 f5 f6 f7 f8).1.2.2.1 (at9 c i arg1 harg1 arg2 harg2 arg3 harg3 arg4 harg4 arg5 harg5 arg6 harg6 arg7 harg7 arg8 harg8 x0 x1 x2 x3 f5 f6 f7 f8).1.2.2.2
/-- What stretch 11 stores, started from what the stretches before it left. -/
def at11 := stretch11 c i arg1 harg1 arg2 harg2 arg3 harg3 arg4 harg4 arg5 harg5 arg6 harg6 arg7 harg7 arg8 harg8 x0 x1 x2 x3 f5 f6 (rows7 c i arg1 harg1 arg2 harg2 arg3 harg3 arg4 harg4 arg5 harg5 arg6 harg6 arg7 harg7 arg8 harg8 x0 x1 x2 x3 f5 f6 f7 f8) f8 (at10 c i arg1 harg1 arg2 harg2 arg3 harg3 arg4 harg4 arg5 harg5 arg6 harg6 arg7 harg7 arg8 harg8 x0 x1 x2 x3 f5 f6 f7 f8).2.1 (at10 c i arg1 harg1 arg2 harg2 arg3 harg3 arg4 harg4 arg5 harg5 arg6 harg6 arg7 harg7 arg8 harg8 x0 x1 x2 x3 f5 f6 f7 f8).2.2.1 (at10 c i arg1 harg1 arg2 harg2 arg3 harg3 arg4 harg4 arg5 harg5 arg6 harg6 arg7 harg7 arg8 harg8 x0 x1 x2 x3 f5 f6 f7 f8).2.2.2.1 (at9 c i arg1 harg1 arg2 harg2 arg3 harg3 arg4 harg4 arg5 harg5 arg6 harg6 arg7 harg7 arg8 harg8 x0 x1 x2 x3 f5 f6 f7 f8).1.1 (at10 c i arg1 harg1 arg2 harg2 arg3 harg3 arg4 harg4 arg5 harg5 arg6 harg6 arg7 harg7 arg8 harg8 x0 x1 x2 x3 f5 f6 f7 f8).1.1 (at10 c i arg1 harg1 arg2 harg2 arg3 harg3 arg4 harg4 arg5 harg5 arg6 harg6 arg7 harg7 arg8 harg8 x0 x1 x2 x3 f5 f6 f7 f8).1.2.1 (at10 c i arg1 harg1 arg2 harg2 arg3 harg3 arg4 harg4 arg5 harg5 arg6 harg6 arg7 harg7 arg8 harg8 x0 x1 x2 x3 f5 f6 f7 f8).1.2.2
/-- What stretch 12 stores, started from what the stretches before it left. -/
def at12 := stretch12 c i arg1 harg1 arg2 harg2 arg3 harg3 arg4 harg4 arg5 harg5 arg6 harg6 arg7 harg7 arg8 harg8 x0 x1 x2 x3 f5 f6 (rows7 c i arg1 harg1 arg2 harg2 arg3 harg3 arg4 harg4 arg5 harg5 arg6 harg6 arg7 harg7 arg8 harg8 x0 x1 x2 x3 f5 f6 f7 f8) f8 (at11 c i arg1 harg1 arg2 harg2 arg3 harg3 arg4 harg4 arg5 harg5 arg6 harg6 arg7 harg7 arg8 harg8 x0 x1 x2 x3 f5 f6 f7 f8).2.1 (at11 c i arg1 harg1 arg2 harg2 arg3 harg3 arg4 harg4 arg5 harg5 arg6 harg6 arg7 harg7 arg8 harg8 x0 x1 x2 x3 f5 f6 f7 f8).2.2.1 (at11 c i arg1 harg1 arg2 harg2 arg3 harg3 arg4 harg4 arg5 harg5 arg6 harg6 arg7 harg7 arg8 harg8 x0 x1 x2 x3 f5 f6 f7 f8).2.2.2.1 (at1 c i arg1 harg1 arg2 harg2 arg3 harg3 arg4 harg4 arg5 harg5 arg6 harg6 arg7 harg7 arg8 harg8 x0 x1 x2 x3 f5 f6 f7 f8).1.1 (at1 c i arg1 harg1 arg2 harg2 arg3 harg3 arg4 harg4 arg5 harg5 arg6 harg6 arg7 harg7 arg8 harg8 x0 x1 x2 x3 f5 f6 f7 f8).1.2.1 (at11 c i arg1 harg1 arg2 harg2 arg3 harg3 arg4 harg4 arg5 harg5 arg6 harg6 arg7 harg7 arg8 harg8 x0 x1 x2 x3 f5 f6 f7 f8).1.1 (at11 c i arg1 harg1 arg2 harg2 arg3 harg3 arg4 harg4 arg5 harg5 arg6 harg6 arg7 harg7 arg8 harg8 x0 x1 x2 x3 f5 f6 f7 f8).1.2.1 (at11 c i arg1 harg1 arg2 harg2 arg3 harg3 arg4 harg4 arg5 harg5 arg6 harg6 arg7 harg7 arg8 harg8 x0 x1 x2 x3 f5 f6 f7 f8).1.2.2.1 (at11 c i arg1 harg1 arg2 harg2 arg3 harg3 arg4 harg4 arg5 harg5 arg6 harg6 arg7 harg7 arg8 harg8 x0 x1 x2 x3 f5 f6 f7 f8).1.2.2.2.1 (at11 c i arg1 harg1 arg2 harg2 arg3 harg3 arg4 harg4 arg5 harg5 arg6 harg6 arg7 harg7 arg8 harg8 x0 x1 x2 x3 f5 f6 f7 f8).1.2.2.2.2.1 (at11 c i arg1 harg1 arg2 harg2 arg3 harg3 arg4 harg4 arg5 harg5 arg6 harg6 arg7 harg7 arg8 harg8 x0 x1 x2 x3 f5 f6 f7 f8).1.2.2.2.2.2.1 (at11 c i arg1 harg1 arg2 harg2 arg3 harg3 arg4 harg4 arg5 harg5 arg6 harg6 arg7 harg7 arg8 harg8 x0 x1 x2 x3 f5 f6 f7 f8).1.2.2.2.2.2.2
/-- What stretch 13 stores, started from what the stretches before it left. -/
def at13 := stretch13 c i arg1 harg1 arg2 harg2 arg3 harg3 arg4 harg4 arg5 harg5 arg6 harg6 arg7 harg7 arg8 harg8 x0 x1 x2 x3 f5 f6 (rows7 c i arg1 harg1 arg2 harg2 arg3 harg3 arg4 harg4 arg5 harg5 arg6 harg6 arg7 harg7 arg8 harg8 x0 x1 x2 x3 f5 f6 f7 f8) f8 (at12 c i arg1 harg1 arg2 harg2 arg3 harg3 arg4 harg4 arg5 harg5 arg6 harg6 arg7 harg7 arg8 harg8 x0 x1 x2 x3 f5 f6 f7 f8).2.1 (at12 c i arg1 harg1 arg2 harg2 arg3 harg3 arg4 harg4 arg5 harg5 arg6 harg6 arg7 harg7 arg8 harg8 x0 x1 x2 x3 f5 f6 f7 f8).2.2.1 (at12 c i arg1 harg1 arg2 harg2 arg3 harg3 arg4 harg4 arg5 harg5 arg6 harg6 arg7 harg7 arg8 harg8 x0 x1 x2 x3 f5 f6 f7 f8).2.2.2.1 (at12 c i arg1 harg1 arg2 harg2 arg3 harg3 arg4 harg4 arg5 harg5 arg6 harg6 arg7 harg7 arg8 harg8 x0 x1 x2 x3 f5 f6 f7 f8).1.1 (at12 c i arg1 harg1 arg2 harg2 arg3 harg3 arg4 harg4 arg5 harg5 arg6 harg6 arg7 harg7 arg8 harg8 x0 x1 x2 x3 f5 f6 f7 f8).1.2.1 (at12 c i arg1 harg1 arg2 harg2 arg3 harg3 arg4 harg4 arg5 harg5 arg6 harg6 arg7 harg7 arg8 harg8 x0 x1 x2 x3 f5 f6 f7 f8).1.2.2.1 (at12 c i arg1 harg1 arg2 harg2 arg3 harg3 arg4 harg4 arg5 harg5 arg6 harg6 arg7 harg7 arg8 harg8 x0 x1 x2 x3 f5 f6 f7 f8).1.2.2.2.1 (at12 c i arg1 harg1 arg2 harg2 arg3 harg3 arg4 harg4 arg5 harg5 arg6 harg6 arg7 harg7 arg8 harg8 x0 x1 x2 x3 f5 f6 f7 f8).1.2.2.2.2
/-- What stretch 14 stores, started from what the stretches before it left. -/
def at14 := stretch14 c i arg1 harg1 arg2 harg2 arg3 harg3 arg4 harg4 arg5 harg5 arg6 harg6 arg7 harg7 arg8 harg8 x0 x1 x2 x3 f5 f6 (rows7 c i arg1 harg1 arg2 harg2 arg3 harg3 arg4 harg4 arg5 harg5 arg6 harg6 arg7 harg7 arg8 harg8 x0 x1 x2 x3 f5 f6 f7 f8) f8 (at13 c i arg1 harg1 arg2 harg2 arg3 harg3 arg4 harg4 arg5 harg5 arg6 harg6 arg7 harg7 arg8 harg8 x0 x1 x2 x3 f5 f6 f7 f8).2.1 (at13 c i arg1 harg1 arg2 harg2 arg3 harg3 arg4 harg4 arg5 harg5 arg6 harg6 arg7 harg7 arg8 harg8 x0 x1 x2 x3 f5 f6 f7 f8).2.2.1 (at13 c i arg1 harg1 arg2 harg2 arg3 harg3 arg4 harg4 arg5 harg5 arg6 harg6 arg7 harg7 arg8 harg8 x0 x1 x2 x3 f5 f6 f7 f8).2.2.2.1 (at12 c i arg1 harg1 arg2 harg2 arg3 harg3 arg4 harg4 arg5 harg5 arg6 harg6 arg7 harg7 arg8 harg8 x0 x1 x2 x3 f5 f6 f7 f8).1.1 (at13 c i arg1 harg1 arg2 harg2 arg3 harg3 arg4 harg4 arg5 harg5 arg6 harg6 arg7 harg7 arg8 harg8 x0 x1 x2 x3 f5 f6 f7 f8).1.1 (at13 c i arg1 harg1 arg2 harg2 arg3 harg3 arg4 harg4 arg5 harg5 arg6 harg6 arg7 harg7 arg8 harg8 x0 x1 x2 x3 f5 f6 f7 f8).1.2.1 (at13 c i arg1 harg1 arg2 harg2 arg3 harg3 arg4 harg4 arg5 harg5 arg6 harg6 arg7 harg7 arg8 harg8 x0 x1 x2 x3 f5 f6 f7 f8).1.2.2.1 (at13 c i arg1 harg1 arg2 harg2 arg3 harg3 arg4 harg4 arg5 harg5 arg6 harg6 arg7 harg7 arg8 harg8 x0 x1 x2 x3 f5 f6 f7 f8).1.2.2.2

/-- The body's run, with the pieces its stretches store. -/
theorem runs_chain : Runs c arg1 harg1 arg2 harg2 arg3 harg3 arg4 harg4 arg5 arg6 arg7 arg8 x0 x1 x2 x3 (cc0_swiglu_fp8 i arg1 harg1 arg2 harg2 arg3 harg3 arg4 harg4 arg5 harg5 arg6 harg6 arg7 harg7 arg8 harg8) PUnit.unit f5 f6 f7 f8
    (arg5.view.writes (Elt F) f5 (at14 c i arg1 harg1 arg2 harg2 arg3 harg3 arg4 harg4 arg5 harg5 arg6 harg6 arg7 harg7 arg8 harg8 x0 x1 x2 x3 f5 f6 f7 f8).2.1) (arg6.view.writes (Elt F) f6 (at14 c i arg1 harg1 arg2 harg2 arg3 harg3 arg4 harg4 arg5 harg5 arg6 harg6 arg7 harg7 arg8 harg8 x0 x1 x2 x3 f5 f6 f7 f8).2.2.1)
    (rows7 c i arg1 harg1 arg2 harg2 arg3 harg3 arg4 harg4 arg5 harg5 arg6 harg6 arg7 harg7 arg8 harg8 x0 x1 x2 x3 f5 f6 f7 f8) (arg8.view.writes (Elt F) f8 (at14 c i arg1 harg1 arg2 harg2 arg3 harg3 arg4 harg4 arg5 harg5 arg6 harg6 arg7 harg7 arg8 harg8 x0 x1 x2 x3 f5 f6 f7 f8).2.2.2.1) :=
  runs_of c i arg1 harg1 arg2 harg2 arg3 harg3 arg4 harg4 arg5 harg5 arg6 harg6 arg7 harg7 arg8 harg8 x0 x1 x2 x3
    (at1 c i arg1 harg1 arg2 harg2 arg3 harg3 arg4 harg4 arg5 harg5 arg6 harg6 arg7 harg7 arg8 harg8 x0 x1 x2 x3 f5 f6 f7 f8).1 (at2 c i arg1 harg1 arg2 harg2 arg3 harg3 arg4 harg4 arg5 harg5 arg6 harg6 arg7 harg7 arg8 harg8 x0 x1 x2 x3 f5 f6 f7 f8).1 (at3 c i arg1 harg1 arg2 harg2 arg3 harg3 arg4 harg4 arg5 harg5 arg6 harg6 arg7 harg7 arg8 harg8 x0 x1 x2 x3 f5 f6 f7 f8).1 (at4 c i arg1 harg1 arg2 harg2 arg3 harg3 arg4 harg4 arg5 harg5 arg6 harg6 arg7 harg7 arg8 harg8 x0 x1 x2 x3 f5 f6 f7 f8).1 (at5 c i arg1 harg1 arg2 harg2 arg3 harg3 arg4 harg4 arg5 harg5 arg6 harg6 arg7 harg7 arg8 harg8 x0 x1 x2 x3 f5 f6 f7 f8).1 (at6 c i arg1 harg1 arg2 harg2 arg3 harg3 arg4 harg4 arg5 harg5 arg6 harg6 arg7 harg7 arg8 harg8 x0 x1 x2 x3 f5 f6 f7 f8).1 (at7 c i arg1 harg1 arg2 harg2 arg3 harg3 arg4 harg4 arg5 harg5 arg6 harg6 arg7 harg7 arg8 harg8 x0 x1 x2 x3 f5 f6 f7 f8).1 (at8 c i arg1 harg1 arg2 harg2 arg3 harg3 arg4 harg4 arg5 harg5 arg6 harg6 arg7 harg7 arg8 harg8 x0 x1 x2 x3 f5 f6 f7 f8).1 (at9 c i arg1 harg1 arg2 harg2 arg3 harg3 arg4 harg4 arg5 harg5 arg6 harg6 arg7 harg7 arg8 harg8 x0 x1 x2 x3 f5 f6 f7 f8).1 (at10 c i arg1 harg1 arg2 harg2 arg3 harg3 arg4 harg4 arg5 harg5 arg6 harg6 arg7 harg7 arg8 harg8 x0 x1 x2 x3 f5 f6 f7 f8).1 (at11 c i arg1 harg1 arg2 harg2 arg3 harg3 arg4 harg4 arg5 harg5 arg6 harg6 arg7 harg7 arg8 harg8 x0 x1 x2 x3 f5 f6 f7 f8).1 (at12 c i arg1 harg1 arg2 harg2 arg3 harg3 arg4 harg4 arg5 harg5 arg6 harg6 arg7 harg7 arg8 harg8 x0 x1 x2 x3 f5 f6 f7 f8).1 (at13 c i arg1 harg1 arg2 harg2 arg3 harg3 arg4 harg4 arg5 harg5 arg6 harg6 arg7 harg7 arg8 harg8 x0 x1 x2 x3 f5 f6 f7 f8).1
    (at1 c i arg1 harg1 arg2 harg2 arg3 harg3 arg4 harg4 arg5 harg5 arg6 harg6 arg7 harg7 arg8 harg8 x0 x1 x2 x3 f5 f6 f7 f8).2.2.2.2.2 (at2 c i arg1 harg1 arg2 harg2 arg3 harg3 arg4 harg4 arg5 harg5 arg6 harg6 arg7 harg7 arg8 harg8 x0 x1 x2 x3 f5 f6 f7 f8).2.2.2.2 (at3 c i arg1 harg1 arg2 harg2 arg3 harg3 arg4 harg4 arg5 harg5 arg6 harg6 arg7 harg7 arg8 harg8 x0 x1 x2 x3 f5 f6 f7 f8).2.2.2.2 (at4 c i arg1 harg1 arg2 harg2 arg3 harg3 arg4 harg4 arg5 harg5 arg6 harg6 arg7 harg7 arg8 harg8 x0 x1 x2 x3 f5 f6 f7 f8).2.2.2.2 (at5 c i arg1 harg1 arg2 harg2 arg3 harg3 arg4 harg4 arg5 harg5 arg6 harg6 arg7 harg7 arg8 harg8 x0 x1 x2 x3 f5 f6 f7 f8).2.2.2.2 (at6 c i arg1 harg1 arg2 harg2 arg3 harg3 arg4 harg4 arg5 harg5 arg6 harg6 arg7 harg7 arg8 harg8 x0 x1 x2 x3 f5 f6 f7 f8).2.2.2.2 (at7 c i arg1 harg1 arg2 harg2 arg3 harg3 arg4 harg4 arg5 harg5 arg6 harg6 arg7 harg7 arg8 harg8 x0 x1 x2 x3 f5 f6 f7 f8).2.2.2.2 (at8 c i arg1 harg1 arg2 harg2 arg3 harg3 arg4 harg4 arg5 harg5 arg6 harg6 arg7 harg7 arg8 harg8 x0 x1 x2 x3 f5 f6 f7 f8).2.2.2.2 (at9 c i arg1 harg1 arg2 harg2 arg3 harg3 arg4 harg4 arg5 harg5 arg6 harg6 arg7 harg7 arg8 harg8 x0 x1 x2 x3 f5 f6 f7 f8).2.2.2.2 (at10 c i arg1 harg1 arg2 harg2 arg3 harg3 arg4 harg4 arg5 harg5 arg6 harg6 arg7 harg7 arg8 harg8 x0 x1 x2 x3 f5 f6 f7 f8).2.2.2.2 (at11 c i arg1 harg1 arg2 harg2 arg3 harg3 arg4 harg4 arg5 harg5 arg6 harg6 arg7 harg7 arg8 harg8 x0 x1 x2 x3 f5 f6 f7 f8).2.2.2.2 (at12 c i arg1 harg1 arg2 harg2 arg3 harg3 arg4 harg4 arg5 harg5 arg6 harg6 arg7 harg7 arg8 harg8 x0 x1 x2 x3 f5 f6 f7 f8).2.2.2.2 (at13 c i arg1 harg1 arg2 harg2 arg3 harg3 arg4 harg4 arg5 harg5 arg6 harg6 arg7 harg7 arg8 harg8 x0 x1 x2 x3 f5 f6 f7 f8).2.2.2.2 (at14 c i arg1 harg1 arg2 harg2 arg3 harg3 arg4 harg4 arg5 harg5 arg6 harg6 arg7 harg7 arg8 harg8 x0 x1 x2 x3 f5 f6 f7 f8).2.2.2.2

end Cert.KernelIdeal.Hand

end
-- ==== Proof.KernelRun.lean ====
/- The body of the kernel at one grid point, run from any contents of its outputs and scratch: it ends with the inputs as
   they were, the codes' buffer holding the pieces `codesList` and the scales' buffer the pieces `hsList`. -/
module

public import proofs.«01_k».proof.Proof.KernelChain

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem SX .fp8e4m3) (harg1 : arg1.IsWhole) (arg2 : Memref sig .tc .vmem SXs .f32) (harg2 : arg2.IsWhole)
  (arg3 : Memref sig .tc .vmem SW .fp8e4m3) (harg3 : arg3.IsWhole) (arg4 : Memref sig .tc .vmem SWs .f32) (harg4 : arg4.IsWhole)
  (arg5 : Memref sig .tc .vmem SCodes .fp8e4m3) (harg5 : arg5.IsWhole) (arg6 : Memref sig .tc .vmem SHs .f32) (harg6 : arg6.IsWhole)
  (arg7 : Memref sig .tc .vmem SRow .f32) (harg7 : arg7.IsWhole) (arg8 : Memref sig .tc .vmem SAmax .f32) (harg8 : arg8.IsWhole)
  (x0 : Vec F SX .fp8e4m3) (x1 : Vec F SXs .f32) (x2 : Vec F SW .fp8e4m3) (x3 : Vec F SWs .f32)

/-! ## The stores over any values loaded back from the scratch -/

/-- `h` of row slice `r` and group `2p + q`, the rows' scales being `xs`. -/
def hOver (xs : Vec F S32x128 .f32) (p : Fin NP) (r : Fin NR) (q : Fin 2) : FVec F S32x128 .f32 :=
  pieceH (extractStridedSlice S32x128 ![32 * r.val, 128 * (gcol q).val] (acc arg1 harg1 arg3 harg3 x0 x2 p) (slicesAcc r _))
    (extractStridedSlice S32x128 ![32 * r.val, 128 * (ucol q).val] (acc arg1 harg1 arg3 harg3 x0 x2 p) (slicesAcc r _))
    xs
    (View.readAt (Elt F) arg4.view (rWs (col p (gcol q))).toLoadRect (harg4.unread x3))
    (View.readAt (Elt F) arg4.view (rWs (col p (ucol q))).toLoadRect (harg4.unread x3))

/-- The stores of the codes, over any rows' scales. -/
def codesOver (xs : Fin NP → Fin NR → Vec F S32x128 .f32) : List (View.Piece (Elt F) SCodes .fp8e4m3) :=
  downs NP fun p => downs NR fun r => down 2 fun q =>
    ⟨rCodes r (grp p q), pieceCodes (hOver arg1 harg1 arg3 harg3 arg4 harg4 x0 x2 x3 (xs p r) p r q)⟩

/-- The stores of the largest magnitudes, over any rows' scales. -/
def amaxOver (xs : Fin NP → Fin NR → Vec F S32x128 .f32) : List (View.Piece (Elt F) SAmax .f32) :=
  downs NP fun p => downs NR fun r => downs 2 fun q => down 4 fun b =>
    ⟨rAmax r (grp p q) b,
      shapeCast S1x1x8x8 (extractStridedSlice S8x8 ![8 * b.val, 0]
        (pieceA (hOver arg1 harg1 arg3 harg3 arg4 harg4 x0 x2 x3 (xs p r) p r q)) (slicesA b)) shapeCasts_S8x8_S1x1x8x8⟩

/-- The stores of the scales, over any largest magnitudes. -/
def hsOver (am : Fin NB → Fin NG → Vec F S1x1x8x128 .f32) : List (View.Piece (Elt F) SHs .f32) :=
  downs NB fun k => down NG fun n => ⟨rHs k n, pieceHs (am k n)⟩

variable (f5 : arg5.view.ty.Contents (Elt F)) (f6 : arg6.view.ty.Contents (Elt F)) (f7 : arg7.view.ty.Contents (Elt F)) (f8 : arg8.view.ty.Contents (Elt F))

/-- The rows' scales as the run loads them back: the first seven slices within the stretch that stored them. -/
def xsRun (p : Fin NP) (r : Fin NR) : Vec F S32x128 .f32 :=
  if p.val = 0 ∧ r.val < 7 then arg7.view.readCov (rowList arg2 harg2 x1) (rRows r).toLoadRect
  else View.readAt (Elt F) arg7.view (rRows r).toLoadRect (arg7.view.writes (Elt F) f7 (rowList arg2 harg2 x1))

/-- The largest magnitudes as the run loads them back. -/
def amRun (L : List (View.Piece (Elt F) SAmax .f32)) (k : Fin NB) (n : Fin NG) : Vec F S1x1x8x128 .f32 :=
  View.readAt (Elt F) arg8.view (rAmaxRow k n).toLoadRect (arg8.view.writes (Elt F) f8 L)

/-! ## The chain's pieces are these -/

set_option maxHeartbeats 27192000

/-- The codes the fourteen stretches store are `codesOver` of the scales they load back. -/
theorem codes_chain : (at14 c i arg1 harg1 arg2 harg2 arg3 harg3 arg4 harg4 arg5 harg5 arg6 harg6 arg7 harg7 arg8 harg8 x0 x1 x2 x3 f5 f6 f7 f8).2.1 = codesOver arg1 harg1 arg3 harg3 arg4 harg4 x0 x2 x3 (xsRun arg2 harg2 arg7 x1 f7) := by
  sl_kernel_rfl

/-- The scales the fourteen stretches store are `hsOver` of the magnitudes they load back. -/
theorem hs_chain : (at14 c i arg1 harg1 arg2 harg2 arg3 harg3 arg4 harg4 arg5 harg5 arg6 harg6 arg7 harg7 arg8 harg8 x0 x1 x2 x3 f5 f6 f7 f8).2.2.1
    = hsOver (amRun arg8 f8 (amaxOver arg1 harg1 arg3 harg3 arg4 harg4 x0 x2 x3 (xsRun arg2 harg2 arg7 x1 f7))) := by
  sl_kernel_rfl

/-! ## What is loaded back was stored -/

/-- The stores of the rows' scales cover their buffer. -/
theorem cover7 (y : SRow.Idx) : ∃ pc ∈ rowList arg2 harg2 x1, y ∈ pc.1.set :=
  View.cover_of_tiledL (rowList arg2 harg2 x1) S8x128.size (by sl_kernel_rfl) y

/-- The rows' scales loaded back are those stored, whatever the buffer held before. -/
theorem xsRun_eq : xsRun arg2 harg2 arg7 x1 f7 = fun _ r => arg7.view.readCov (rowList arg2 harg2 x1) (rRows r).toLoadRect := by
  funext p r
  unfold xsRun
  split_ifs
  · rfl
  · exact View.readAt_writes_of_cover arg7.view f7 _ _ fun j => cover7 arg2 harg2 x1 _

/-- Over the stored scales, the stores of the magnitudes are `amaxList`. -/
theorem amaxOver_eq : amaxOver arg1 harg1 arg3 harg3 arg4 harg4 x0 x2 x3 (fun _ r => arg7.view.readCov (rowList arg2 harg2 x1) (rRows r).toLoadRect)
    = amaxList arg1 harg1 arg2 harg2 arg3 harg3 arg4 harg4 arg7 x0 x1 x2 x3 := rfl

/-- The stores of the largest magnitudes cover their buffer. -/
theorem cover8 (y : SAmax.Idx) : ∃ pc ∈ amaxList arg1 harg1 arg2 harg2 arg3 harg3 arg4 harg4 arg7 x0 x1 x2 x3, y ∈ pc.1.set :=
  View.cover_of_tiledL (amaxList arg1 harg1 arg2 harg2 arg3 harg3 arg4 harg4 arg7 x0 x1 x2 x3) S1x1x8x8.size (by sl_kernel_rfl) y

/-- The magnitudes loaded back are those stored, whatever the buffer held before. -/
theorem amRun_eq : amRun arg8 f8 (amaxList arg1 harg1 arg2 harg2 arg3 harg3 arg4 harg4 arg7 x0 x1 x2 x3)
    = fun k n => arg8.view.readCov (amaxList arg1 harg1 arg2 harg2 arg3 harg3 arg4 harg4 arg7 x0 x1 x2 x3) (rAmaxRow k n).toLoadRect := by
  funext k n
  exact View.readAt_writes_of_cover arg8.view f8 _ _ fun j => cover8 arg1 harg1 arg2 harg2 arg3 harg3 arg4 harg4 arg7 x0 x1 x2 x3 _

/-- Over the scales loaded back, the stores of the codes are `codesList`. -/
theorem codesOver_eq : codesOver arg1 harg1 arg3 harg3 arg4 harg4 x0 x2 x3 (xsRun arg2 harg2 arg7 x1 f7)
    = codesList arg1 harg1 arg2 harg2 arg3 harg3 arg4 harg4 arg7 x0 x1 x2 x3 := by
  rw [xsRun_eq]; rfl

/-- Over the magnitudes loaded back, the stores of the scales are `hsList`. -/
theorem hsOver_eq : hsOver (amRun arg8 f8 (amaxOver arg1 harg1 arg3 harg3 arg4 harg4 x0 x2 x3 (xsRun arg2 harg2 arg7 x1 f7)))
    = hsList arg1 harg1 arg2 harg2 arg3 harg3 arg4 harg4 arg7 arg8 x0 x1 x2 x3 := by
  rw [xsRun_eq, amaxOver_eq, amRun_eq]; rfl

/-- The codes the fourteen stretches store are `codesList`. -/
theorem codes_eq : (at14 c i arg1 harg1 arg2 harg2 arg3 harg3 arg4 harg4 arg5 harg5 arg6 harg6 arg7 harg7 arg8 harg8 x0 x1 x2 x3 f5 f6 f7 f8).2.1 = codesList arg1 harg1 arg2 harg2 arg3 harg3 arg4 harg4 arg7 x0 x1 x2 x3 :=
  (codes_chain c i arg1 harg1 arg2 harg2 arg3 harg3 arg4 harg4 arg5 harg5 arg6 harg6 arg7 harg7 arg8 harg8 x0 x1 x2 x3 f5 f6 f7 f8).trans (codesOver_eq arg1 harg1 arg2 harg2 arg3 harg3 arg4 harg4 arg7 x0 x1 x2 x3 f7)

/-- The scales the fourteen stretches store are `hsList`. -/
theorem hs_eq : (at14 c i arg1 harg1 arg2 harg2 arg3 harg3 arg4 harg4 arg5 harg5 arg6 harg6 arg7 harg7 arg8 harg8 x0 x1 x2 x3 f5 f6 f7 f8).2.2.1 = hsList arg1 harg1 arg2 harg2 arg3 harg3 arg4 harg4 arg7 arg8 x0 x1 x2 x3 :=
  (hs_chain c i arg1 harg1 arg2 harg2 arg3 harg3 arg4 harg4 arg5 harg5 arg6 harg6 arg7 harg7 arg8 harg8 x0 x1 x2 x3 f5 f6 f7 f8).trans (hsOver_eq arg1 harg1 arg2 harg2 arg3 harg3 arg4 harg4 arg7 arg8 x0 x1 x2 x3 f7 f8)

omit f5 f6 f7 f8 in
/-- A run's pieces by other names. -/
theorem runs_to {P4 L4 : List (View.Piece (Elt F) SCodes .fp8e4m3)} {P5 L5 : List (View.Piece (Elt F) SHs .f32)} (e4 : P4 = L4) (e5 : P5 = L5)
    {f5 : arg5.view.ty.Contents (Elt F)} {f6 : arg6.view.ty.Contents (Elt F)} {f7 e7 : arg7.view.ty.Contents (Elt F)} {f8 e8 : arg8.view.ty.Contents (Elt F)}
    (h : Runs c arg1 harg1 arg2 harg2 arg3 harg3 arg4 harg4 arg5 arg6 arg7 arg8 x0 x1 x2 x3 (cc0_swiglu_fp8 i arg1 harg1 arg2 harg2 arg3 harg3 arg4 harg4 arg5 harg5 arg6 harg6 arg7 harg7 arg8 harg8) PUnit.unit f5 f6 f7 f8
      (arg5.view.writes (Elt F) f5 P4) (arg6.view.writes (Elt F) f6 P5) e7 e8) :
    ∃ e7 e8, Runs c arg1 harg1 arg2 harg2 arg3 harg3 arg4 harg4 arg5 arg6 arg7 arg8 x0 x1 x2 x3 (cc0_swiglu_fp8 i arg1 harg1 arg2 harg2 arg3 harg3 arg4 harg4 arg5 harg5 arg6 harg6 arg7 harg7 arg8 harg8) PUnit.unit f5 f6 f7 f8
      (arg5.view.writes (Elt F) f5 L4) (arg6.view.writes (Elt F) f6 L5) e7 e8 := by
  subst e4; subst e5; exact ⟨e7, e8, h⟩

/-- The body's run, with the pieces `codesList` and `hsList`. -/
theorem runs_lists : ∃ e7 e8, Runs c arg1 harg1 arg2 harg2 arg3 harg3 arg4 harg4 arg5 arg6 arg7 arg8 x0 x1 x2 x3 (cc0_swiglu_fp8 i arg1 harg1 arg2 harg2 arg3 harg3 arg4 harg4 arg5 harg5 arg6 harg6 arg7 harg7 arg8 harg8) PUnit.unit f5 f6 f7 f8
    (arg5.view.writes (Elt F) f5 (codesList arg1 harg1 arg2 harg2 arg3 harg3 arg4 harg4 arg7 x0 x1 x2 x3)) (arg6.view.writes (Elt F) f6 (hsList arg1 harg1 arg2 harg2 arg3 harg3 arg4 harg4 arg7 arg8 x0 x1 x2 x3)) e7 e8 :=
  runs_to c i arg1 harg1 arg2 harg2 arg3 harg3 arg4 harg4 arg5 harg5 arg6 harg6 arg7 harg7 arg8 harg8 x0 x1 x2 x3
    (codes_eq c i arg1 harg1 arg2 harg2 arg3 harg3 arg4 harg4 arg5 harg5 arg6 harg6 arg7 harg7 arg8 harg8 x0 x1 x2 x3 f5 f6 f7 f8) (hs_eq c i arg1 harg1 arg2 harg2 arg3 harg3 arg4 harg4 arg5 harg5 arg6 harg6 arg7 harg7 arg8 harg8 x0 x1 x2 x3 f5 f6 f7 f8) (runs_chain c i arg1 harg1 arg2 harg2 arg3 harg3 arg4 harg4 arg5 harg5 arg6 harg6 arg7 harg7 arg8 harg8 x0 x1 x2 x3 f5 f6 f7 f8)

/-- The body's triple: on whole staging memrefs, the inputs' at their contents and everything else at anything, the body
    runs to the continuation holding the inputs' as they were, each output's pieces written over something, the scratch
    at something. -/
theorem body_run :
    ∃ (L4 : List (View.Piece (Elt F) SCodes .fp8e4m3)) (L5 : List (View.Piece (Elt F) SHs .f32)),
      (∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ d, owns (c : Thread nD τ) arg7 fullShare d) ∗ (∃ d, owns (c : Thread nD τ) arg8 fullShare d)) -∗ K ⟨⟩))
          ⊢ wp frame (wpE (defs₀ (F := F)) Variants.none c none) E (cc0_swiglu_fp8 i arg1 harg1 arg2 harg2 arg3 harg3 arg4 harg4 arg5 harg5 arg6 harg6 arg7 harg7 arg8 harg8) K)
      ∧ L4 = codesList arg1 harg1 arg2 harg2 arg3 harg3 arg4 harg4 arg7 x0 x1 x2 x3
      ∧ L5 = hsList arg1 harg1 arg2 harg2 arg3 harg3 arg4 harg4 arg7 arg8 x0 x1 x2 x3 := by
  refine ⟨_, _, fun E K => ?_, rfl, rfl⟩
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  obtain ⟨e7, e8, h⟩ := runs_lists c i arg1 harg1 arg2 harg2 arg3 harg3 arg4 harg4 arg5 harg5 arg6 harg6 arg7 harg7 arg8 harg8 x0 x1 x2 x3 f4 f5 fs0 fs1
  iapply (h E K)
  unfold Held
  isplitl [H0 H1 H2 H3 H4 H5 HS0 HS1]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    iexact HS1
  iintro ⟨H0, H1, H2, H3, H4, H5, HS0, HS1⟩
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]; · iexists _; iexact H4
  isplitl [H5]; · iexists _; iexact H5
  isplitl [HS0]
  · iexists _, _; isplitr; swap; · iexact HS0
    ipureintro; rfl
  iexists _, _; isplitr; swap; · iexact HS1
  ipureintro; rfl

end Cert.KernelIdeal.Hand

end
-- ==== Proof.KernelOut.lean ====
/- The two output buffers of the kernel after one grid point: their stores cover them. -/
module

public import proofs.«01_k».proof.Proof.KernelBlocks

@[expose] public section

set_option maxRecDepth 16384

noncomputable section

namespace Cert.KernelIdeal.Hand

open Cert.KernelIdeal Cert.KernelIdeal.Gen Idealize.ShloMosaic Idealize.ShloMosaic.TcCoe Idealize.ShloMosaic.Tactic

variable {F : FTy → Type} [FloatOps F] [Named F]

/-! ## What a grid point leaves -/

section Point

variable (arg1 : Memref sig .tc .vmem SX .fp8e4m3) (harg1 : arg1.IsWhole)
  (arg2 : Memref sig .tc .vmem SXs .f32) (harg2 : arg2.IsWhole)
  (arg3 : Memref sig .tc .vmem SW .fp8e4m3) (harg3 : arg3.IsWhole)
  (arg4 : Memref sig .tc .vmem SWs .f32) (harg4 : arg4.IsWhole)
  (arg7 : Memref sig .tc .vmem SRow .f32) (arg8 : Memref sig .tc .vmem SAmax .f32)
  (x0 : Vec F SX .fp8e4m3) (x1 : Vec F SXs .f32) (x2 : Vec F SW .fp8e4m3) (x3 : Vec F SWs .f32)

/-- The stores of the codes cover their block: they tile it. -/
theorem cover4 (y : SCodes.Idx) : ∃ pc ∈ (codesList arg1 harg1 arg2 harg2 arg3 harg3 arg4 harg4 arg7 x0 x1 x2 x3), y ∈ pc.1.set :=
  View.cover_of_tiledL (codesList arg1 harg1 arg2 harg2 arg3 harg3 arg4 harg4 arg7 x0 x1 x2 x3) S32x128.size (by sl_kernel_rfl) y

/-- The stores of the scales cover their block: they tile it. -/
theorem cover5 (y : SHs.Idx) : ∃ pc ∈ (hsList arg1 harg1 arg2 harg2 arg3 harg3 arg4 harg4 arg7 arg8 x0 x1 x2 x3), y ∈ pc.1.set :=
  View.cover_of_tiledL (hsList arg1 harg1 arg2 harg2 arg3 harg3 arg4 harg4 arg7 arg8 x0 x1 x2 x3) S1x1x128.size (by sl_kernel_rfl) y

/-- The codes' buffer after a grid point. -/
def out4 : Vec F SCodes .fp8e4m3 := VO0_4.read (Elt F) (VO0_4.writes (Elt F) VO0_4.junk (codesList arg1 harg1 arg2 harg2 arg3 harg3 arg4 harg4 arg7 x0 x1 x2 x3))

/-- The scales' buffer after a grid point. -/
def out5 : Vec F SHs .f32 := VO0_5.read (Elt F) (VO0_5.writes (Elt F) VO0_5.junk (hsList arg1 harg1 arg2 harg2 arg3 harg3 arg4 harg4 arg7 arg8 x0 x1 x2 x3))

end Point

end Cert.KernelIdeal.Hand

end
-- ==== Proof.KernelFrame.lean ====
/- The run of the whole program from the run of its body: what each output's buffer holds after a grid point, the arrays
   the program leaves, and the arguments it keeps. -/
module

public import proofs.«01_k».proof.Proof.KernelRun
public import proofs.«01_k».proof.Proof.KernelOut
public import Idealize.ShloMosaic.Lib.Claim
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's triple with the pieces it writes named. -/
theorem body_run_pieces (c : Dev nD) (i : grid0.Coords) (arg1 : Memref sig .tc .vmem S512x2048 .fp8e4m3) (harg1 : arg1.IsWhole) (arg2 : Memref sig .tc .vmem S1x1x512 .f32) (harg2 : arg2.IsWhole) (arg3 : Memref sig .tc .vmem S2048x4096 .fp8e4m3) (harg3 : arg3.IsWhole) (arg4 : Memref sig .tc .vmem S1x4096 .f32) (harg4 : arg4.IsWhole) (arg5 : Memref sig .tc .vmem S512x2048 .fp8e4m3) (harg5 : arg5.IsWhole) (arg6 : Memref sig .tc .vmem S1x16x512 .f32) (harg6 : arg6.IsWhole) (arg7 : Memref sig .tc .vmem S512x128 .f32) (harg7 : arg7.IsWhole) (arg8 : Memref sig .tc .vmem S4x16x8x128 .f32) (harg8 : arg8.IsWhole)
    (x0 : Vec F S512x2048 .fp8e4m3) (x1 : Vec F S1x1x512 .f32) (x2 : Vec F S2048x4096 .fp8e4m3) (x3 : Vec F S1x4096 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f (codesList arg1 harg1 arg2 harg2 arg3 harg3 arg4 harg4 arg7 x0 x1 x2 x3)) ∗ (∃ f, arg6.view.loc (c : Thread nD τ) ↦[arg6.view.set]{fullShare} arg6.view.writes (Elt F) f (hsList arg1 harg1 arg2 harg2 arg3 harg3 arg4 harg4 arg7 arg8 x0 x1 x2 x3)) ∗ (∃ d, owns (c : Thread nD τ) arg7 fullShare d) ∗ (∃ d, owns (c : Thread nD τ) arg8 fullShare d)) -∗ K ⟨⟩))
          ⊢ wp frame (wpE (defs₀ (F := F)) Variants.none c none) E (cc0_swiglu_fp8 i arg1 harg1 arg2 harg2 arg3 harg3 arg4 harg4 arg5 harg5 arg6 harg6 arg7 harg7 arg8 harg8) K := by
  obtain ⟨L4, L5, h, rfl, rfl⟩ := body_run c i arg1 harg1 arg2 harg2 arg3 harg3 arg4 harg4 arg5 harg5 arg6 harg6 arg7 harg7 arg8 harg8 x0 x1 x2 x3
  exact h E K

variable (m : (ℓ : Loc nD τ sig) → Buf (Elt F) ℓ) (ρ : Dev nD → PrngReg)

/-- What the outputs' buffers hold after the body at point `t`. -/
def outsAt0 (c : Dev nD) (t : Fin cfg0.N) : Vec F SCodes .fp8e4m3 × Vec F SHs .f32 :=
  (out4 (ms0_0 t) (hs0_0 t) (ms0_1 t) (hs0_1 t) (ms0_2 t) (hs0_2 t) (ms0_3 t) (hs0_3 t) scM0_0 (iblk m c 0 t) (iblk m c 1 t) (iblk m c 2 t) (iblk m c 3 t),
   out5 (ms0_0 t) (hs0_0 t) (ms0_1 t) (hs0_1 t) (ms0_2 t) (hs0_2 t) (ms0_3 t) (hs0_3 t) scM0_0 scM0_1 (iblk m c 0 t) (iblk m c 1 t) (iblk m c 2 t) (iblk m c 3 t))

/-! ## The pipeline's proof data -/

/-- The arrays as the region finds them; after the body at point `t` each input's buffer at its block and the outputs' at
    `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t).1
    | ⟨5, _⟩ => (outsAt0 m c t).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t).1 := by dsimp only [dats]
theorem after0_5 (c : Dev nD) (t : Fin cfg0.N) : (dats m 0 c).after 5 t = (outsAt0 m c t).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' buffers hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  unfold out4 out5; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (body_run_pieces c (grid0.coords t) _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  iintro ⟨H0, H1, H2, H3, ⟨%e4, H4⟩, ⟨%e5, H5⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover4 _ _ _ _ _ _ _ _ _ _ _ _ _)
  unfold owns; iexists _; isplitr
  swap; · iexact H5
  ipureintro; exact View.read_writes_of_cover _ _ _ _ _ (cover5 _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run of the program, every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run of the program: every array of the pipeline ends at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-! ## The result arrays, block by block -/

/-- What point `t` writes back to the codes. -/
theorem flushed4 (c : Dev nD) (t : Fin cfg0.N) :
    (dats m 0 c).flushed 4 t = (cfg0.win 4).cut (grid0.coords t) ((outsAt0 m c t).1) := by
  show (cfg0.win 4).cut (grid0.coords t) ((dats m 0 c).after 4 t) = _
  rw [after0_4]

/-- Distinct points write distinct blocks. -/
theorem idx_inj4 : ∀ t t' : Fin cfg0.N, win0_4.index t = win0_4.index t' → t = t' :=
  (by decide +kernel : ∀ t t' : Fin grid0.N, win0_4.index t = win0_4.index t' → t = t')

/-- So no two blocks meet. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- Block `t` of the final array is what point `t` wrote back. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index in no block keeps what the array held. -/
theorem entry4 (c : Dev nD) (i : S32768x2048.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- What point `t` writes back to the scales. -/
theorem flushed5 (c : Dev nD) (t : Fin cfg0.N) :
    (dats m 0 c).flushed 5 t = (cfg0.win 5).cut (grid0.coords t) ((outsAt0 m c t).2) := by
  show (cfg0.win 5).cut (grid0.coords t) ((dats m 0 c).after 5 t) = _
  rw [after0_5]

/-- Distinct points write distinct blocks. -/
theorem idx_inj5 : ∀ t t' : Fin cfg0.N, win0_5.index t = win0_5.index t' → t = t' :=
  (by decide +kernel : ∀ t t' : Fin grid0.N, win0_5.index t = win0_5.index t' → t = t')

/-- So no two blocks meet. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- Block `t` of the final array is what point `t` wrote back. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index in no block keeps what the array held. -/
theorem entry5 (c : Dev nD) (i : S4x16x8192.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- The array after the run. -/
theorem post4 (r : PUnit × MemSt nD τ sig (Elt F)) (h : Pipeline.FramePost cfgs (dats m) 0 (V m) r) (c : Dev nD) :
    r.2.mem ((c : Thread nD τ).loc main_v3_0) = (dats m 0 c).arrAt 4 cfg0.N :=
  (h c).1 4

/-- The array after the run. -/
theorem post5 (r : PUnit × MemSt nD τ sig (Elt F)) (h : Pipeline.FramePost cfgs (dats m) 0 (V m) r) (c : Dev nD) :
    r.2.mem ((c : Thread nD τ).loc main_v3_1) = (dats m 0 c).arrAt 5 cfg0.N :=
  (h c).1 5

/-- The argument is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- The argument is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The argument is as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The argument is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The run with both result arrays named, the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      kept_main_arg0 m r h c,
      kept_main_arg1 m r h c,
      kept_main_arg2 m r h c,
      kept_main_arg3 m r h c⟩)
    (run_main m ρ)

end Cert.KernelIdeal.Hand

end
-- ==== Proof.Scalar.lean ====
/- The arithmetic the two programs share, on extended reals: the gate's sigmoid in the kernel's form and in the reference's,
   and the power-of-two scale of a row, which the kernel finds bit by bit and the reference by a logarithm. -/
module

public import Idealize.ShloMosaic.Lib.Pointwise

@[expose] public section

noncomputable section

namespace Cert.Hand

open Idealize.ShloMosaic

/-! ## The sigmoid -/

/-- The kernel's `1 / (1 + 2^(-x / log 2))` is the reference's `1 / (1 + e^(-x))`, at the infinities too. -/
theorem sigmoid_eq (x : EReal) :
    Ideal.div 1 (1 + Ideal.exp2 (x * ((-((Real.log 2)⁻¹) : ℝ) : EReal))) = Ideal.logistic x := by
  have hl : 0 < Real.log 2 := Real.log_pos one_lt_two
  have hc : (-((Real.log 2)⁻¹) : ℝ) < 0 := neg_lt_zero.mpr (inv_pos.mpr hl)
  unfold Ideal.logistic
  induction x using EReal.rec with
  | bot => rw [EReal.bot_mul_coe_of_neg hc]; simp
  | top => rw [EReal.top_mul_coe_of_neg hc]; simp
  | coe r =>
    have e : Ideal.exp2 ((r : EReal) * ((-((Real.log 2)⁻¹) : ℝ) : EReal)) = Ideal.exp (-(r : EReal)) := by
      rw [← EReal.coe_mul, ← EReal.coe_neg, Ideal.exp2_coe]
      show (((2 : ℝ) ^ (r * -(Real.log 2)⁻¹) : ℝ) : EReal) = ((Real.exp (-r) : ℝ) : EReal)
      rw [Real.rpow_def_of_pos two_pos]
      congr 2
      field_simp
    rw [e]

/-! ## Words of powers of two -/

/-- The word whose exponent field is `b` and whose other fields are zero. -/
abbrev fieldWord (b : ℕ) : BitVec 32 := BitVec.ofNat 32 (b * 8388608)

/-- What it denotes: `2 ^ (b - 127)`, for a field that is neither zero nor all ones. -/
theorem ofBits_fieldWord {b : ℕ} (h0 : 1 ≤ b) (h1 : b ≤ 254) :
    Ideal.ofBits .f32 (fieldWord b) = (((2 : ℝ) ^ ((b : ℤ) - 127) : ℝ) : EReal) := by
  have key : ∀ b : Fin 256, ((fieldWord b).extractLsb' 31 1 == 1#1) = false ∧ ((fieldWord b).extractLsb' 23 8).toNat = b.val
      ∧ ((fieldWord b).extractLsb' 0 23).toNat = 0 := by decide +kernel
  obtain ⟨k0, k1, k2⟩ := key ⟨b, by omega⟩
  simp only at k0 k1 k2
  show Ideal.ieee 8 23 (fieldWord b) = _
  unfold Ideal.ieee
  simp only [Nat.reduceAdd, k0, k1, k2]
  rw [if_neg (by omega), if_neg (by omega)]
  congr 1
  have h23 : (((2 ^ 23 + 0 : ℕ) : ℝ)) = (2 : ℝ) ^ (23 : ℤ) := by norm_num
  rw [if_neg (by simp), one_mul, h23, ← zpow_add₀ two_ne_zero]
  congr 1
  ring

/-! ## The exponent field, bit by bit -/

/-- One step: the bit `c` is set in the word where the value with it set is still at most `y`. -/
def rungS (y : EReal) (c m : BitVec 32) : BitVec 32 :=
  Scalar.select (Ideal.cmp .oge y (Ideal.ofBits .f32 (m ||| c))) (m ||| c) m

/-- After the bits from the highest down to `k`: a field `b`, its low `k` bits clear, with `y` between the values of `b`
    (where that is not zero) and of `b + 2 ^ k` (where that is a field). -/
def Between (y : EReal) (k b : ℕ) : Prop :=
  b % 2 ^ k = 0 ∧ b + 2 ^ k ≤ 256 ∧ (b = 0 ∨ Ideal.ofBits .f32 (fieldWord b) ≤ y)
    ∧ (b + 2 ^ k = 256 ∨ y < Ideal.ofBits .f32 (fieldWord (b + 2 ^ k)))

/-- Setting the next lower bit of an exponent field adds its power of two. -/
theorem or_fieldWord : ∀ (k : Fin 8) (b : Fin 256), b.val % 2 ^ (k.val + 1) = 0 → b.val + 2 ^ (k.val + 1) ≤ 256 →
    fieldWord b.val ||| fieldWord (2 ^ k.val) = fieldWord (b.val + 2 ^ k.val) := by decide +kernel

/-- One rung of the ladder halves the range of the exponent. -/
theorem between_step {y : EReal} {k b : ℕ} (hk : k < 8) (h : Between y (k + 1) b) :
    ∃ b', rungS y (fieldWord (2 ^ k)) (fieldWord b) = fieldWord b' ∧ Between y k b' := by
  obtain ⟨h0, h1, h2, h3⟩ := h
  have hp : 0 < 2 ^ k := Nat.two_pow_pos k
  have hs : 2 ^ (k + 1) = 2 ^ k * 2 := pow_succ 2 k
  have hw := or_fieldWord ⟨k, hk⟩ ⟨b, by omega⟩ h0 h1
  simp only at hw
  have hm : b % 2 ^ k = 0 := Nat.mod_eq_zero_of_dvd (dvd_trans (Dvd.intro 2 hs.symm) (Nat.dvd_of_mod_eq_zero h0))
  unfold rungS
  rw [hw]
  by_cases hy : Ideal.ofBits .f32 (fieldWord (b + 2 ^ k)) ≤ y
  · refine ⟨b + 2 ^ k, ?_, ?_, by omega, .inr hy, ?_⟩
    · simp [Scalar.select, Ideal.cmp, hy]
    · rw [Nat.add_mod_right]; exact hm
    · rw [show b + 2 ^ k + 2 ^ k = b + 2 ^ (k + 1) by omega]; exact h3
  · refine ⟨b, ?_, hm, by omega, h2, .inr (not_le.mp hy)⟩
    simp [Scalar.select, Ideal.cmp, hy]

/-- All eight bits. -/
def ladderS (y : EReal) : BitVec 32 :=
  rungS y 8388608#32 (rungS y 16777216#32 (rungS y 33554432#32 (rungS y 67108864#32
    (rungS y 134217728#32 (rungS y 268435456#32 (rungS y 536870912#32 (rungS y 1073741824#32 0#32)))))))

/-- The ladder ends at the exponent field of its number. -/
theorem ladderS_between (y : EReal) : ∃ b, ladderS y = fieldWord b ∧ Between y 0 b := by
  have h8 : Between y 8 0 := ⟨by norm_num, by norm_num, .inl rfl, .inl (by norm_num)⟩
  obtain ⟨b7, e7, h7⟩ := between_step (by norm_num) h8
  obtain ⟨b6, e6, h6⟩ := between_step (by norm_num) h7
  obtain ⟨b5, e5, h5⟩ := between_step (by norm_num) h6
  obtain ⟨b4, e4, h4⟩ := between_step (by norm_num) h5
  obtain ⟨b3, e3, h3⟩ := between_step (by norm_num) h4
  obtain ⟨b2, e2, h2⟩ := between_step (by norm_num) h3
  obtain ⟨b1, e1, h1⟩ := between_step (by norm_num) h2
  obtain ⟨b0, e0, h0⟩ := between_step (by norm_num) h1
  refine ⟨b0, ?_, h0⟩
  rw [← e0, ← e1, ← e2, ← e3, ← e4, ← e5, ← e6, ← e7]
  rfl

/-! ## The scale of a row and its inverse, the kernel's and the reference's -/

/-- A row's largest magnitude over 448. -/
def overMax (a : EReal) : EReal := a * Ideal.ofBits .f32 0x3B124925#32

/-- The kernel's exponent field. -/
def fieldS (a : EReal) : BitVec 32 :=
  Scalar.select (Ideal.cmp .ole a (Ideal.ofBits .f32 0x7F7FFFFF#32)) (ladderS (overMax a)) 2139095040#32

/-- Whether it is a normal number's. -/
def normalS (m : BitVec 32) : BitVec 1 := IntOp.andi (IntOp.cmpi .ne m 0#32) (IntOp.cmpi .ne m 2139095040#32)

/-- The kernel's scale. -/
def scaleK (a : EReal) : EReal :=
  Ideal.ofBits .f32 (Scalar.select (normalS (fieldS a)) (fieldS a + 8388608#32) 1065353216#32)

/-- The kernel's inverse scale. -/
def invK (a : EReal) : EReal :=
  Ideal.ofBits .f32 (Scalar.select (normalS (fieldS a)) (2122317824#32 - fieldS a) 1065353216#32)

/-- The reference's exponent. -/
def expR (a : EReal) : EReal :=
  Scalar.select (IntOp.andi (Ideal.cmp .oge (overMax a) (Ideal.ofBits .f32 0x00800000#32)) (Ideal.cmp .ole a (Ideal.ofBits .f32 0x7F7FFFFF#32)))
    (Ideal.liftRound Int.floor (Ideal.div (Ideal.log (overMax a)) ((Real.log 2 : ℝ) : EReal)) + 1) 0

/-- The constant is a small positive real. -/
theorem ofBits_inv448 : ∃ c : ℝ, Ideal.ofBits .f32 0x3B124925#32 = (c : EReal) ∧ 0 < c ∧ c < 2 ^ (-8 : ℤ) := by
  refine ⟨9586981 * (2 : ℝ) ^ (-32 : ℤ), ?_, by positivity, by norm_num⟩
  simp [Ideal.ofBits, Ideal.ieee, -EReal.coe_mul]

/-- The largest finite value is a real below `2 ^ 128`. -/
theorem ofBits_maxf32 : ∃ c : ℝ, Ideal.ofBits .f32 0x7F7FFFFF#32 = (c : EReal) ∧ c < 2 ^ (128 : ℤ) := by
  refine ⟨16777215 * (2 : ℝ) ^ (104 : ℤ), ?_, by norm_num⟩
  simp [Ideal.ofBits, Ideal.ieee, -EReal.coe_mul]

/-- The three cases of a row: its field is a normal number's, with the exponent the logarithm gives, or both say zero. -/
theorem scale_cases (a : EReal) :
    (∃ b : ℕ, 1 ≤ b ∧ b ≤ 246 ∧ fieldS a = fieldWord b ∧ expR a = (((b : ℝ) - 126 : ℝ) : EReal))
      ∨ (normalS (fieldS a) = 0#1 ∧ expR a = 0) := by
  obtain ⟨c, hc, hc0, hc1⟩ := ofBits_inv448
  obtain ⟨M, hM, hM1⟩ := ofBits_maxf32
  by_cases ha : a ≤ Ideal.ofBits .f32 0x7F7FFFFF#32
  · obtain ⟨b, hb, h0, h1, h2, h3⟩ := ladderS_between (overMax a)
    have hf : fieldS a = fieldWord b := by
      unfold fieldS; rw [← hb]; simp [Scalar.select, Ideal.cmp, ha]
    have h1w : Ideal.ofBits .f32 0x00800000#32 = (((2 : ℝ) ^ ((1 : ℤ) - 127) : ℝ) : EReal) := ofBits_fieldWord (b := 1) le_rfl (by norm_num)
    by_cases hb0 : b = 0
    · subst hb0
      right
      have hlt : overMax a < Ideal.ofBits .f32 0x00800000#32 := by
        rcases h3 with h3 | h3
        · norm_num at h3
        · exact h3
      refine ⟨by rw [hf]; decide, ?_⟩
      unfold expR
      simp [Scalar.select, Ideal.cmp, IntOp.andi, not_le.mpr hlt]
    · left
      have hb1 : 1 ≤ b := Nat.one_le_iff_ne_zero.mpr hb0
      have hlo : Ideal.ofBits .f32 (fieldWord b) ≤ overMax a := h2.resolve_left hb0
      -- the row's maximum is a real
      obtain ⟨r, rfl⟩ : ∃ r : ℝ, a = (r : EReal) := by
        induction a using EReal.rec with
        | bot =>
          exfalso
          have hbot : overMax ⊥ = ⊥ := by unfold overMax; rw [hc]; exact EReal.bot_mul_coe_of_pos hc0
          rw [hbot, le_bot_iff] at hlo
          by_cases hb254 : b ≤ 254
          · rw [ofBits_fieldWord hb1 hb254] at hlo; exact EReal.coe_ne_bot _ hlo
          · have : b = 255 := by norm_num at h1; omega
            subst this
            have ht : Ideal.ofBits .f32 (fieldWord 255) = ⊤ := by simp [fieldWord, Ideal.ofBits, Ideal.ieee]
            rw [ht] at hlo; exact absurd hlo (by simp)
        | top => rw [hM] at ha; exact absurd ha (by simp)
        | coe r => exact ⟨r, rfl⟩
      rw [hM, EReal.coe_le_coe_iff] at ha
      have hy : overMax (r : EReal) = ((r * c : ℝ) : EReal) := by unfold overMax; rw [hc, EReal.coe_mul]
      rw [hy] at hlo h3
      have hyhi : r * c < (2 : ℝ) ^ (120 : ℤ) := by
        have e : (2 : ℝ) ^ (120 : ℤ) = 2 ^ (128 : ℤ) * 2 ^ (-8 : ℤ) := by rw [← zpow_add₀ two_ne_zero]; norm_num
        rw [e]
        have hM0 : (0 : ℝ) < 2 ^ (128 : ℤ) := by positivity
        calc r * c ≤ 2 ^ (128 : ℤ) * c := mul_le_mul_of_nonneg_right (ha.trans hM1.le) hc0.le
          _ < _ := mul_lt_mul_of_pos_left hc1 hM0
      have hb254 : b ≤ 254 := by
        by_contra hcon
        have : b = 255 := by norm_num at h1; omega
        subst this
        have ht : Ideal.ofBits .f32 (fieldWord 255) = ⊤ := by simp [fieldWord, Ideal.ofBits, Ideal.ieee]
        rw [ht] at hlo; exact absurd (top_le_iff.mp hlo) (EReal.coe_ne_top _)
      rw [ofBits_fieldWord hb1 hb254, EReal.coe_le_coe_iff] at hlo
      have hb246 : b ≤ 246 := by
        by_contra hcon
        have : (2 : ℝ) ^ (120 : ℤ) ≤ 2 ^ ((b : ℤ) - 127) := zpow_le_zpow_right₀ one_le_two (by omega)
        linarith
      have hhi : r * c < (2 : ℝ) ^ ((b : ℤ) - 126) := by
        rcases h3 with h3 | h3
        · norm_num at h3; omega
        · rw [show b + 2 ^ 0 = b + 1 from rfl, ofBits_fieldWord (by omega) (by omega), EReal.coe_lt_coe_iff] at h3
          rwa [show ((b + 1 : ℕ) : ℤ) - 127 = (b : ℤ) - 126 by push_cast; ring] at h3
      have hpos : 0 < r * c := lt_of_lt_of_le (by positivity) hlo
      refine ⟨b, hb1, hb246, hf, ?_⟩
      have htiny : Ideal.ofBits .f32 0x00800000#32 ≤ ((r * c : ℝ) : EReal) := by
        rw [h1w, EReal.coe_le_coe_iff]
        exact le_trans (zpow_le_zpow_right₀ one_le_two (by omega)) hlo
      have hl : 0 < Real.log 2 := Real.log_pos one_lt_two
      have hfl : ⌊Real.log (r * c) * (Real.log 2)⁻¹⌋ = (b : ℤ) - 127 := by
        rw [Int.floor_eq_iff]
        have l1 := Real.log_le_log (by positivity) hlo
        have l2 := Real.log_lt_log hpos hhi
        rw [Real.log_zpow] at l1 l2
        rw [← div_eq_mul_inv]
        refine ⟨(le_div_iff₀ hl).mpr l1, (div_lt_iff₀ hl).mpr ?_⟩
        push_cast at l2 ⊢
        linarith
      unfold expR
      rw [hy]
      have hsel : IntOp.andi (Ideal.cmp .oge ((r * c : ℝ) : EReal) (Ideal.ofBits .f32 0x00800000#32)) (Ideal.cmp .ole (r : EReal) (Ideal.ofBits .f32 0x7F7FFFFF#32)) = 1 := by
        rw [Ideal.cmp, Ideal.cmp, hM]
        simp only [decide_eq_true htiny, decide_eq_true (EReal.coe_le_coe_iff.mpr ha)]
        rfl
      rw [hsel, Scalar.select, if_pos rfl, Ideal.log_coe, if_neg (not_le.mpr hpos), Ideal.div,
        if_neg (by rw [EReal.coe_eq_zero]; exact hl.ne'), ← EReal.coe_inv, ← EReal.coe_mul]
      show (((⌊Real.log (r * c) * (Real.log 2)⁻¹⌋ : ℤ) : ℝ) : EReal) + 1 = _
      rw [hfl, ← EReal.coe_one, ← EReal.coe_add]
      congr 1
      push_cast
      ring
  · right
    constructor
    · unfold fieldS
      rw [Scalar.select, if_neg (by simp [Ideal.cmp, ha])]
      decide
    · unfold expR
      simp [Scalar.select, Ideal.cmp, IntOp.andi, ha]

/-- The two scales are one. -/
theorem scale_eq (a : EReal) : scaleK a = Ideal.exp2 (expR a) := by
  have key : ∀ b : Fin 247, 1 ≤ b.val → normalS (fieldWord b) = 1#1 ∧ fieldWord b + 8388608#32 = fieldWord (b.val + 1) := by decide +kernel
  unfold scaleK
  rcases scale_cases a with ⟨b, h1, h2, hf, he⟩ | ⟨hn, he⟩
  · obtain ⟨k1, k2⟩ := key ⟨b, by omega⟩ h1
    simp only at k1 k2
    rw [hf, k1, k2, he, Scalar.select, if_pos (by decide), ofBits_fieldWord (by omega) (by omega), Ideal.exp2_coe]
    congr 1
    show _ = (2 : ℝ) ^ ((b : ℝ) - 126)
    rw [← Real.rpow_intCast]
    congr 1
    push_cast
    ring
  · rw [hn, he, Scalar.select, if_neg (by decide), ← EReal.coe_zero, Ideal.exp2_coe]
    show Ideal.ofBits .f32 0x3F800000#32 = (((2 : ℝ) ^ (0 : ℝ) : ℝ) : EReal)
    rw [Ideal.ofBits_one_f32, Real.rpow_zero, EReal.coe_one]

/-- The two inverses are one. -/
theorem inv_eq (a : EReal) : invK a = Ideal.exp2 (0 - expR a) := by
  have key : ∀ b : Fin 247, 1 ≤ b.val → normalS (fieldWord b) = 1#1 ∧ 2122317824#32 - fieldWord b = fieldWord (253 - b.val) := by decide +kernel
  unfold invK
  rcases scale_cases a with ⟨b, h1, h2, hf, he⟩ | ⟨hn, he⟩
  · obtain ⟨k1, k2⟩ := key ⟨b, by omega⟩ h1
    simp only at k1 k2
    rw [hf, k1, k2, he, Scalar.select, if_pos (by decide), ofBits_fieldWord (by omega) (by omega), zero_sub, ← EReal.coe_neg, Ideal.exp2_coe]
    congr 1
    show _ = (2 : ℝ) ^ (-((b : ℝ) - 126))
    rw [← Real.rpow_intCast]
    congr 1
    rw [Nat.cast_sub (by omega)]
    push_cast
    ring
  · rw [hn, he, Scalar.select, if_neg (by decide), zero_sub, neg_zero, ← EReal.coe_zero, Ideal.exp2_coe]
    show Ideal.ofBits .f32 0x3F800000#32 = (((2 : ℝ) ^ (0 : ℝ) : ℝ) : EReal)
    rw [Ideal.ofBits_one_f32, Real.rpow_zero, EReal.coe_one]

/-! ## One element's value, one row's maximum -/

/-- `silu(gate) * up`, from the two products and the scales of the row and of the two columns. -/
def hS (g u xs sg su : EReal) : EReal := g * xs * sg * Ideal.logistic (g * xs * sg) * (u * xs * su)

/-- The largest magnitude of 128 values. -/
def rowMax (f : Fin 128 → EReal) : EReal :=
  Finset.univ.fold max (Ideal.ofBits .f32 0xFF800000#32) fun j => max (f j) (-f j)

/-- The code of a value in a row of largest magnitude `a`. -/
def codeS (h a : EReal) : EReal :=
  min (Ideal.ofBits .f32 0x43E00000#32) (max (Ideal.ofBits .f32 0xC3E00000#32) (h * Ideal.exp2 (0 - expR a)))

/-- The word of minus infinity is `⊥`. -/
theorem ofBits_negInf : Ideal.ofBits .f32 0xFF800000#32 = ⊥ := by simp [Ideal.ofBits, Ideal.ieee]

/-- A row's largest magnitude is not negative. -/
theorem rowMax_nonneg (f : Fin 128 → EReal) : 0 ≤ rowMax f := by
  unfold rowMax
  rw [Finset.le_fold_max]
  refine .inr ⟨0, Finset.mem_univ _, ?_⟩
  rcases le_total 0 (f 0) with h | h
  · exact le_max_of_le_left h
  · exact le_max_of_le_right (EReal.neg_nonneg.mpr h)

/-- The maximum of one value, not negative, among zeros. -/
theorem fold_max_single {n : ℕ} (k : Fin n) (a : EReal) (ha : 0 ≤ a) (f : Fin n → EReal) (hk : f k = a) (h0 : ∀ j, j ≠ k → f j = 0) :
    (Finset.univ : Finset (Fin n)).fold max (Ideal.ofBits .f32 0xFF800000#32) f = a := by
  apply le_antisymm
  · rw [Finset.fold_max_le]
    refine ⟨by rw [ofBits_negInf]; exact bot_le, fun j _ => ?_⟩
    by_cases hj : j = k
    · rw [hj, hk]
    · rw [h0 j hj]; exact ha
  · rw [Finset.le_fold_max]
    exact .inr ⟨k, Finset.mem_univ _, hk.ge⟩

end Cert.Hand

end
-- ==== Proof.KernelPieces.lean ====
/- Each piece of the kernel's stores, read at an index over the extended reals. -/
module

public import proofs.«01_k».proof.Proof.KernelBlocks
public import proofs.«01_k».proof.Proof.Scalar

@[expose] public section

noncomputable section

namespace Cert.KernelIdeal.Hand

open Cert.KernelIdeal Cert.KernelIdeal.Gen Cert.Hand Idealize.ShloMosaic Idealize.ShloMosaic.TcCoe

/-- The constant of the gate's exponential is `-1 / log 2`. -/
theorem neg_log2e :
    Named.named (F := Ideal) Cert.KernelIdeal.κ "neg_log2e" (φ := .f32) 0xBFB8AA3B#32 = ((-((Real.log 2)⁻¹) : ℝ) : EReal) :=
  IdealRules.named_const.ideal_named_scalar _ _ _ _ rfl

/-- One rung of the ladder, at an index. -/
theorem rung_apply {s : Shape} (y : FVec Ideal s .f32) (b : BitVec 32) (m : IVec s 32) (i : s.Idx) :
    rung y b m i = rungS (y i) b (m i) := rfl

/-- The exponent field, at an index. -/
theorem expField_apply {s : Shape} (a : FVec Ideal s .f32) (i : s.Idx) : expField a i = fieldS (a i) := by
  unfold expField fieldS ladderS
  pointwise [rung_apply, overMax]

/-- The test for a normal exponent, at an index. -/
theorem normalField_apply {s : Shape} (m : IVec s 32) (i : s.Idx) : normalField m i = normalS (m i) := rfl

/-- A piece of `h`, at an index. -/
theorem pieceH_apply (g u xs : FVec Ideal S32x128 .f32) (sg su : Vec Ideal S1x128 .f32) (a : Fin 32) (j : Fin 128) :
    pieceH g u xs sg su (ix2 a j)
      = hS (g (ix2 a j)) (u (ix2 a j)) (xs (ix2 a j)) (sg (ix2 0 j)) (su (ix2 0 j)) := by
  unfold hS
  rw [← sigmoid_eq]
  pointwise [pieceH, neg_log2e]
  try rfl

/-- A row's largest magnitude, at an index. -/
theorem pieceA_apply (h : FVec Ideal S32x128 .f32) (a : Fin 32) (j : Fin 128) :
    pieceA h (ix2 a j) = rowMax fun j' => h (ix2 a j') := by
  unfold rowMax
  pointwise [pieceA]
  try rfl

/-- A piece of the codes, at an index. -/
theorem pieceCodes_apply (h : FVec Ideal S32x128 .f32) (a : Fin 32) (j : Fin 128) :
    pieceCodes h (ix2 a j) = codeS (h (ix2 a j)) (rowMax fun j' => h (ix2 a j')) := by
  unfold codeS
  rw [← inv_eq, ← pieceA_apply h a j]
  unfold pieceCodes invK
  pointwise [expField_apply, normalField_apply]
  rfl

/-- A row's scale, picked out of the lanes, at an index. -/
theorem pieceRow_apply (v : Vec Ideal S1x1x128 .f32) (off : ℕ) (hoff : off + 8 ≤ 128) (a : Fin 8) (j : Fin 128) :
    pieceRow v off (ix2 a j) = v (ix3 0 0 ⟨off + a.val, by omega⟩) := by
  pointwise [pieceRow]
  rw [Finset.sum_eq_single (⟨off + a.val, by omega⟩ : Fin 128)]
  · have e : IntOp.cmpi .eq (BitVec.ofNat 32 (off + a.val)) (IntOp.addi (BitVec.ofNat 32 a.val) (BitVec.ofNat 32 off)) = 1 := by
      rw [IntOp.addi, BitVec.ofNat_add, BitVec.add_comm]
      simp [IntOp.cmpi]
    rw [e, Scalar.select, if_pos rfl]
  · intro x _ hx
    have e : IntOp.cmpi .eq (BitVec.ofNat 32 x.val) (IntOp.addi (BitVec.ofNat 32 a.val) (BitVec.ofNat 32 off)) = 0 := by
      have hne : BitVec.ofNat 32 x.val ≠ BitVec.ofNat 32 a.val + BitVec.ofNat 32 off := by
        rw [← BitVec.ofNat_add]
        intro h
        have h' := congrArg BitVec.toNat h
        rw [BitVec.toNat_ofNat, BitVec.toNat_ofNat, Nat.mod_eq_of_lt (by omega), Nat.mod_eq_of_lt (by omega)] at h'
        exact hx (Fin.ext (by simp only; omega))
      show BitVec.ofBool (BitVec.ofNat 32 x.val == BitVec.ofNat 32 a.val + BitVec.ofNat 32 off) = 0
      rw [beq_eq_false_iff_ne.mpr hne]; rfl
    rw [e, Scalar.select, if_neg (by decide)]
  · intro h; exact absurd (Finset.mem_univ _) h

/-- The lane's number modulo 8, as the kernel takes it: its low three bits. -/
theorem lane_mod (l : Fin 128) (x : Fin 8) (p q : EReal) :
    Scalar.select (IntOp.cmpi .eq (IntOp.andi (BitVec.ofNat 32 l.val) 7#32) (BitVec.ofNat 32 x.val)) p q
      = if (⟨l.val % 8, by omega⟩ : Fin 8) = x then p else q := by
  have key : ∀ (l : Fin 128) (x : Fin 8), IntOp.cmpi .eq (IntOp.andi (BitVec.ofNat 32 l.val) 7#32) (BitVec.ofNat 32 x.val)
      = if (⟨l.val % 8, by omega⟩ : Fin 8) = x then 1 else 0 := by decide +kernel
  rw [key, Scalar.select]
  split_ifs <;> simp_all

/-- A piece of the scales, at an index. -/
theorem pieceHs_apply (v : Vec Ideal S1x1x8x128 .f32) (l : Fin 128) (hv : 0 ≤ v (ix4 0 0 ⟨l.val % 8, by omega⟩ l)) :
    pieceHs v (ix3 0 0 l) = Ideal.exp2 (expR (v (ix4 0 0 ⟨l.val % 8, by omega⟩ l))) := by
  have hf : (Finset.univ : Finset (Fin 8)).fold max (Ideal.ofBits .f32 0xFF800000#32) (fun x => Scalar.select
      (IntOp.cmpi .eq (IntOp.andi (BitVec.ofNat 32 l.val) 7#32) (BitVec.ofNat 32 x.val)) (v (ix4 0 0 x l)) 0)
      = v (ix4 0 0 ⟨l.val % 8, by omega⟩ l) := by
    refine fold_max_single ⟨l.val % 8, by omega⟩ _ hv _ ?_ fun x hx => ?_
    · rw [lane_mod l, if_pos rfl]
    · rw [lane_mod l, if_neg (Ne.symm hx)]
  rw [← scale_eq]
  unfold scaleK
  pointwise [pieceHs, expField_apply, normalField_apply]
  rw [hf]
  rfl

end Cert.KernelIdeal.Hand

end
-- ==== Proof.KernelValue.lean ====
/- What one grid point of the kernel leaves in its two output blocks, element by element: the same function of the rows'
   and columns' numbers everywhere, whichever store wrote the element. -/
module

public import proofs.«01_k».proof.Proof.KernelPieces
public import proofs.«01_k».proof.Proof.KernelOut
public import Idealize.ShloMosaic.Lib.WholeRead
public import Idealize.ShloMosaic.Lib.Writes
public import Idealize.ShloMosaic.Lib.MatmulPlain

@[expose] public section

noncomputable section

namespace Cert.KernelIdeal.Hand

open Cert.KernelIdeal Cert.KernelIdeal.Gen Cert.Hand Idealize.ShloMosaic Idealize.ShloMosaic.TcCoe

/-- The gate's column of group `n` at place `j`, and the up's. -/
def gateCol (n : Fin NG) (j : Fin 128) : Fin (256 * NG) := ⟨256 * n.val + j.val, by have := n.isLt; have := j.isLt; simp only [NG] at *; omega⟩
def upCol (n : Fin NG) (j : Fin 128) : Fin (256 * NG) := ⟨256 * n.val + 128 + j.val, by have := n.isLt; have := j.isLt; simp only [NG] at *; omega⟩

section
variable (x0 : Vec Ideal SX .fp8e4m3) (x1 : Vec Ideal SXs .f32) (x2 : Vec Ideal SW .fp8e4m3) (x3 : Vec Ideal SWs .f32)

/-- A row against a column of the weight. -/
def dotV (i : Fin MR) (c : Fin (256 * NG)) : EReal := ∑ k : Fin NK, x0 (ix2 i k) * x2 (ix2 k c)

/-- `h` of row `i`, group `n`, place `j`. -/
def hV (i : Fin MR) (n : Fin NG) (j : Fin 128) : EReal :=
  hS (dotV x0 x2 i (gateCol n j)) (dotV x0 x2 i (upCol n j)) (x1 (ix3 0 0 i)) (x3 (ix2 0 (gateCol n j))) (x3 (ix2 0 (upCol n j)))

/-- The largest magnitude of row `i` in group `n`. -/
def aV (i : Fin MR) (n : Fin NG) : EReal := rowMax fun j => hV x0 x1 x2 x3 i n j

section
variable (arg1 : Memref sig .tc .vmem SX .fp8e4m3) (harg1 : arg1.IsWhole)
  (arg2 : Memref sig .tc .vmem SXs .f32) (harg2 : arg2.IsWhole)
  (arg3 : Memref sig .tc .vmem SW .fp8e4m3) (harg3 : arg3.IsWhole)
  (arg4 : Memref sig .tc .vmem SWs .f32) (harg4 : arg4.IsWhole)
  (arg7 : Memref sig .tc .vmem SRow .f32) (arg8 : Memref sig .tc .vmem SAmax .f32)

/-- The spread scales, read back: row `32 r + a` has its own scale in every lane. -/
theorem rows_apply (r : Fin NR) (a : Fin 32) (j : Fin 128) (i : Fin MR) (hi : i.val = 32 * r.val + a.val) :
    arg7.view.readCov (rowList arg2 harg2 x1) (rRows r).toLoadRect (ix2 a j) = x1 (ix3 0 0 i) := by
  have hr := r.isLt
  have ha := a.isLt
  rw [View.readCov_eq_canon']
  have hG := View.canon_apply_of_pieces (Val := Elt Ideal) (S := SRow) (e := .f32) (fun y => x1 (ix3 0 0 (y 0))) (rowList arg2 harg2 x1)
    (fun p hp x => ?_) ((rRows r).toLoadRect.idx (ix2 a j)) ?_
  · refine hG.trans ?_
    congr 2
    apply Fin.ext
    show 32 * r.val + 1 * a.val = i.val
    omega
  · obtain ⟨k, rfl⟩ := mem_down hp
    have hk := k.isLt
    obtain ⟨b, l, rfl⟩ : ∃ (b : Fin 8) (l : Fin 128), x = ix2 b l := ⟨x 0, x 1, by funext q; match q with | ⟨0, _⟩ => rfl | ⟨1, _⟩ => rfl⟩
    have hb := b.isLt
    simp only [NI] at hk
    refine (pieceRow_apply _ _ (by omega) b l).trans ?_
    rw [harg2.readAt_unread]
    congr 1
    refine Rect.emb_eq_of_coords (rXs (rowBlk k)) _ _ fun q => ?_
    match q with
    | ⟨0, _⟩ => rfl
    | ⟨1, _⟩ => rfl
    | ⟨2, _⟩ =>
      show 8 * k.val + 1 * b.val = 128 * (k.val / 16) + 1 * (8 * k.val % 128 + b.val)
      omega
  · simp only [NR] at hr
    refine ⟨_, mem_down_of (⟨4 * r.val + a.val / 8, by simp only [NI]; omega⟩ : Fin NI), ?_⟩
    rw [Rect.mem_set_unit]
    intro q
    match q with
    | ⟨0, _⟩ =>
      show 8 * (4 * r.val + a.val / 8) ≤ 32 * r.val + 1 * a.val ∧ 32 * r.val + 1 * a.val < 8 * (4 * r.val + a.val / 8) + 8
      omega
    | ⟨1, _⟩ =>
      have := j.isLt
      show 0 ≤ 0 + 1 * j.val ∧ 0 + 1 * j.val < 0 + 128
      omega

/-- Product `p` at a row and one of its 512 columns. -/
theorem acc_apply (p : Fin NP) (i : Fin MR) (c : Fin 512) (c' : Fin (256 * NG)) (hc : c'.val = 512 * p.val + c.val) :
    acc arg1 harg1 arg3 harg3 x0 x2 p (ix2 i c) = dotV x0 x2 i c' := by
  unfold acc dotV
  refine (Ideal.matmul_plain_apply none _ _ _ i c).trans ?_
  have hz : Ideal.ofBits .f32 0x00000000#32 = 0 := by simp [Ideal.ofBits, Ideal.ieee]
  show Ideal.ofBits .f32 0x00000000#32 + _ = _
  rw [hz, zero_add]
  refine Finset.sum_congr rfl fun k _ => ?_
  rw [harg3.readAt_unread]
  congr 1
  · refine (congrFun (shapeCast_self _ _) (ix2 i k)).trans ?_
    rw [harg1.readAt_unread]
    congr 1
    refine Rect.emb_eq_of_coords rX _ _ fun q => ?_
    match q with
    | ⟨0, _⟩ => show i.val = 0 + 1 * i.val; omega
    | ⟨1, _⟩ => show k.val = 0 + 1 * k.val; omega
  · congr 1
    refine Rect.emb_eq_of_coords (rW p) _ _ fun q => ?_
    match q with
    | ⟨0, _⟩ => show k.val = 0 + 1 * k.val; omega
    | ⟨1, _⟩ => show c'.val = 512 * p.val + 1 * c.val; omega

/-- `h` of a row slice and a group, at a row and a place. -/
theorem hAt_apply (p : Fin NP) (r : Fin NR) (q : Fin 2) (a : Fin 32) (j : Fin 128) (i : Fin MR) (hi : i.val = 32 * r.val + a.val) :
    hAt arg1 harg1 arg2 harg2 arg3 harg3 arg4 harg4 arg7 x0 x1 x2 x3 p r q (ix2 a j) = hV x0 x1 x2 x3 i (grp p q) j := by
  have hj := j.isLt
  have hq := q.isLt
  unfold hAt hV
  rw [pieceH_apply]
  congr 1
  · refine Eq.trans (extractStridedSlice_apply _ _ _ _ (ix2 i ⟨128 * (2 * q.val) + j.val, by omega⟩) fun d => ?_) (acc_apply x0 x2 arg1 harg1 arg3 harg3 p i _ _ ?_)
    · match d with
      | ⟨0, _⟩ => exact hi
      | ⟨1, _⟩ => rfl
    · show 256 * (2 * p.val + q.val) + j.val = 512 * p.val + (128 * (2 * q.val) + j.val)
      omega
  · refine Eq.trans (extractStridedSlice_apply _ _ _ _ (ix2 i ⟨128 * (2 * q.val + 1) + j.val, by omega⟩) fun d => ?_) (acc_apply x0 x2 arg1 harg1 arg3 harg3 p i _ _ ?_)
    · match d with
      | ⟨0, _⟩ => exact hi
      | ⟨1, _⟩ => rfl
    · show 256 * (2 * p.val + q.val) + 128 + j.val = 512 * p.val + (128 * (2 * q.val + 1) + j.val)
      omega
  · exact rows_apply x1 arg2 harg2 arg7 r a j i hi
  · rw [harg4.readAt_unread]
    congr 1
    refine Rect.emb_eq_of_coords (rWs _) _ _ fun d => ?_
    match d with
    | ⟨0, _⟩ => rfl
    | ⟨1, _⟩ => show 256 * (2 * p.val + q.val) + j.val = 128 * (4 * p.val + 2 * q.val) + 1 * j.val; omega
  · rw [harg4.readAt_unread]
    congr 1
    refine Rect.emb_eq_of_coords (rWs _) _ _ fun d => ?_
    match d with
    | ⟨0, _⟩ => rfl
    | ⟨1, _⟩ => show 256 * (2 * p.val + q.val) + 128 + j.val = 128 * (4 * p.val + (2 * q.val + 1)) + 1 * j.val; omega

/-- The largest magnitude of a row slice and a group, at a row and any place. -/
theorem aAt_apply (p : Fin NP) (r : Fin NR) (q : Fin 2) (a : Fin 32) (j : Fin 128) (i : Fin MR) (hi : i.val = 32 * r.val + a.val) :
    pieceA (hAt arg1 harg1 arg2 harg2 arg3 harg3 arg4 harg4 arg7 x0 x1 x2 x3 p r q) (ix2 a j) = aV x0 x1 x2 x3 i (grp p q) := by
  rw [pieceA_apply]
  unfold aV
  congr 1
  funext j'
  exact hAt_apply x0 x1 x2 x3 arg1 harg1 arg2 harg2 arg3 harg3 arg4 harg4 arg7 p r q a j' i hi

/-- The codes' block after its stores, at row `i`, group `n`, place `j`. -/
def codesV (y : SCodes.Idx) : EReal :=
  codeS (hV x0 x1 x2 x3 (y 0) ⟨(y 1).val / 128, by have h : (y 1).val < 128 * NG := (y 1).isLt; simp only [NG] at *; omega⟩ ⟨(y 1).val % 128, by omega⟩)
    (aV x0 x1 x2 x3 (y 0) ⟨(y 1).val / 128, by have h : (y 1).val < 128 * NG := (y 1).isLt; simp only [NG] at *; omega⟩)

/-- Every piece of the codes is the one function of the place it is stored at. -/
theorem codes_pieces : ∀ pc ∈ codesList arg1 harg1 arg2 harg2 arg3 harg3 arg4 harg4 arg7 x0 x1 x2 x3,
    ∀ x : pc.1.shape.Idx, pc.2 x = codesV x0 x1 x2 x3 (pc.1.emb x) := by
  intro pc hpc x
  obtain ⟨p, hpc⟩ := mem_downs hpc
  obtain ⟨r, hpc⟩ := mem_downs hpc
  obtain ⟨q, rfl⟩ := mem_down hpc
  obtain ⟨a, j, rfl⟩ : ∃ (a : Fin 32) (j : Fin 128), x = ix2 a j := ⟨x 0, x 1, by funext d; match d with | ⟨0, _⟩ => rfl | ⟨1, _⟩ => rfl⟩
  have hr := r.isLt
  have ha := a.isLt
  have hj := j.isLt
  simp only [NR] at hr
  refine (pieceCodes_apply _ a j).trans ?_
  have hi : 32 * r.val + a.val < MR := by simp only [MR]; omega
  have e0 : (⟨32 * r.val + a.val, hi⟩ : Fin MR) = ((rCodes r (grp p q)).emb (ix2 a j)) 0 := by
    apply Fin.ext; show 32 * r.val + a.val = 32 * r.val + 1 * a.val; omega
  have e1 : (((rCodes r (grp p q)).emb (ix2 a j)) 1).val = 128 * (grp p q).val + 1 * j.val := rfl
  unfold codesV
  rw [← e0]
  have en : ∀ h, (⟨(((rCodes r (grp p q)).emb (ix2 a j)) 1).val / 128, h⟩ : Fin NG) = grp p q := by
    intro h; apply Fin.ext; simp only [e1]; omega
  have ej : ∀ h, (⟨(((rCodes r (grp p q)).emb (ix2 a j)) 1).val % 128, h⟩ : Fin 128) = j := by
    intro h; apply Fin.ext; simp only [e1]; omega
  rw [en, ej]
  congr 1
  · exact hAt_apply x0 x1 x2 x3 arg1 harg1 arg2 harg2 arg3 harg3 arg4 harg4 arg7 p r q a j _ rfl
  · unfold aV
    congr 1
    funext j'
    exact hAt_apply x0 x1 x2 x3 arg1 harg1 arg2 harg2 arg3 harg3 arg4 harg4 arg7 p r q a j' _ rfl

/-- The kept maxima, read back for a block of 128 rows and a group: at `d` and lane `l`, the row with the lane's place among
    eight exchanged for `d`. -/
theorem amax_apply (k : Fin NB) (n : Fin NG) (d : Fin 8) (l : Fin 128) (i : Fin MR) (hi : i.val = 128 * k.val + l.val / 8 * 8 + d.val) :
    arg8.view.readCov (amaxList arg1 harg1 arg2 harg2 arg3 harg3 arg4 harg4 arg7 x0 x1 x2 x3) (rAmaxRow k n).toLoadRect (ix4 0 0 d l)
      = aV x0 x1 x2 x3 i n := by
  have hk := k.isLt
  have hn := n.isLt
  have hd := d.isLt
  have hl := l.isLt
  simp only [NB, NG] at hk hn
  rw [View.readCov_eq_canon']
  have bound : ∀ y : SAmax.Idx, 128 * (y 0).val + (y 3).val / 8 * 8 + (y 2).val < MR := by
    intro y
    have h0 : (y 0).val < NB := (y 0).isLt
    have h2 : (y 2).val < 8 := (y 2).isLt
    have h3 : (y 3).val < 128 := (y 3).isLt
    simp only [NB, MR] at *
    omega
  have hG := View.canon_apply_of_pieces (Val := Elt Ideal) (S := SAmax) (e := .f32)
    (fun y => aV x0 x1 x2 x3 ⟨128 * (y 0).val + (y 3).val / 8 * 8 + (y 2).val, bound y⟩ (y 1))
    (amaxList arg1 harg1 arg2 harg2 arg3 harg3 arg4 harg4 arg7 x0 x1 x2 x3)
    (fun pc hpc x => ?_) ((rAmaxRow k n).toLoadRect.idx (ix4 0 0 d l)) ?_
  · refine hG.trans ?_
    congr 1
    · apply Fin.ext
      show 128 * (k.val + 1 * 0) + (0 + 1 * l.val) / 8 * 8 + (0 + 1 * d.val) = i.val
      omega
  · obtain ⟨p, hpc⟩ := mem_downs hpc
    obtain ⟨r, hpc⟩ := mem_downs hpc
    obtain ⟨q, hpc⟩ := mem_downs hpc
    obtain ⟨b, rfl⟩ := mem_down hpc
    obtain ⟨z0, z1, e, f, rfl⟩ : ∃ (z0 : Fin 1) (z1 : Fin 1) (e : Fin 8) (f : Fin 8), x = ix4 z0 z1 e f :=
      ⟨x 0, x 1, x 2, x 3, by funext d; match d with | ⟨0, _⟩ => rfl | ⟨1, _⟩ => rfl | ⟨2, _⟩ => rfl | ⟨3, _⟩ => rfl⟩
    have hr := r.isLt
    have hb := b.isLt
    have he := e.isLt
    have hf := f.isLt
    have hz0 : z0.val = 0 := by omega
    have hz1 : z1.val = 0 := by omega
    simp only [NR] at hr
    have hi' : 32 * r.val + (8 * b.val + e.val) < MR := by simp only [MR]; omega
    have step : (shapeCast S1x1x8x8 (extractStridedSlice S8x8 ![8 * b.val, 0]
        (pieceA (hAt arg1 harg1 arg2 harg2 arg3 harg3 arg4 harg4 arg7 x0 x1 x2 x3 p r q)) (slicesA b)) shapeCasts_S8x8_S1x1x8x8 : Vec Ideal S1x1x8x8 .f32) (ix4 z0 z1 e f)
        = aV x0 x1 x2 x3 ⟨32 * r.val + (8 * b.val + e.val), hi'⟩ (grp p q) := by
      refine (shapeCast_apply _ _ _ (ix2 e f) ?_).trans ?_
      · rw [Shape.rowMajor_val_two, Shape.rowMajor_val_four]
        show e.val * 8 + f.val = ((z0.val * 1 + z1.val) * 8 + e.val) * 8 + f.val
        omega
      refine (extractStridedSlice_apply _ _ _ _ (ix2 ⟨8 * b.val + e.val, by omega⟩ ⟨f.val, by omega⟩) fun d => ?_).trans ?_
      · match d with
        | ⟨0, _⟩ => rfl
        | ⟨1, _⟩ => show f.val = 0 + f.val; omega
      exact aAt_apply x0 x1 x2 x3 arg1 harg1 arg2 harg2 arg3 harg3 arg4 harg4 arg7 p r q _ _ _ rfl
    refine step.trans ?_
    have h0 : (((rAmax r (grp p q) b).emb (ix4 z0 z1 e f)) 0).val = (32 * r.val + 8 * b.val) / 128 + 1 * z0.val := rfl
    have h1 : (((rAmax r (grp p q) b).emb (ix4 z0 z1 e f)) 1).val = (grp p q).val + 1 * z1.val := rfl
    have h2 : (((rAmax r (grp p q) b).emb (ix4 z0 z1 e f)) 2).val = 0 + 1 * e.val := rfl
    have h3 : (((rAmax r (grp p q) b).emb (ix4 z0 z1 e f)) 3).val = (32 * r.val + 8 * b.val) % 128 + 1 * f.val := rfl
    congr 1
    · apply Fin.ext
      simp only [h0, h2, h3]
      omega
    · apply Fin.ext
      simp only [h1]
      omega
  · have hp : n.val / 2 < NP := by simp only [NP]; omega
    have hq : n.val % 2 < 2 := by omega
    have hr : (128 * k.val + l.val) / 32 < NR := by simp only [NR]; omega
    have hb : (128 * k.val + l.val) % 32 / 8 < 4 := by omega
    refine ⟨_, mem_downs_of ⟨n.val / 2, hp⟩ (mem_downs_of ⟨(128 * k.val + l.val) / 32, hr⟩ (mem_downs_of ⟨n.val % 2, hq⟩ (mem_down_of ⟨(128 * k.val + l.val) % 32 / 8, hb⟩))), ?_⟩
    rw [Rect.mem_set_unit]
    intro c
    match c with
    | ⟨0, _⟩ =>
      show (32 * ((128 * k.val + l.val) / 32) + 8 * ((128 * k.val + l.val) % 32 / 8)) / 128 ≤ k.val + 1 * 0
        ∧ k.val + 1 * 0 < (32 * ((128 * k.val + l.val) / 32) + 8 * ((128 * k.val + l.val) % 32 / 8)) / 128 + 1
      omega
    | ⟨1, _⟩ =>
      show 2 * (n.val / 2) + n.val % 2 ≤ n.val + 1 * 0 ∧ n.val + 1 * 0 < 2 * (n.val / 2) + n.val % 2 + 1
      omega
    | ⟨2, _⟩ =>
      show 0 ≤ 0 + 1 * d.val ∧ 0 + 1 * d.val < 0 + 8
      omega
    | ⟨3, _⟩ =>
      show (32 * ((128 * k.val + l.val) / 32) + 8 * ((128 * k.val + l.val) % 32 / 8)) % 128 ≤ 0 + 1 * l.val
        ∧ 0 + 1 * l.val < (32 * ((128 * k.val + l.val) / 32) + 8 * ((128 * k.val + l.val) % 32 / 8)) % 128 + 8
      omega

/-- The scales' block after its stores, at group `n` and row `i`. -/
def hsV (y : SHs.Idx) : EReal := Ideal.exp2 (expR (aV x0 x1 x2 x3 (y 2) (y 1)))

/-- Every piece of the scales is the one function of the place it is stored at. -/
theorem hs_pieces : ∀ pc ∈ hsList arg1 harg1 arg2 harg2 arg3 harg3 arg4 harg4 arg7 arg8 x0 x1 x2 x3,
    ∀ x : pc.1.shape.Idx, pc.2 x = hsV x0 x1 x2 x3 (pc.1.emb x) := by
  intro pc hpc x
  obtain ⟨k, hpc⟩ := mem_downs hpc
  obtain ⟨n, rfl⟩ := mem_down hpc
  obtain ⟨z0, z1, l, rfl⟩ : ∃ (z0 : Fin 1) (z1 : Fin 1) (l : Fin 128), x = ix3 z0 z1 l :=
    ⟨x 0, x 1, x 2, by funext d; match d with | ⟨0, _⟩ => rfl | ⟨1, _⟩ => rfl | ⟨2, _⟩ => rfl⟩
  obtain rfl : z0 = 0 := Subsingleton.elim _ _
  obtain rfl : z1 = 0 := Subsingleton.elim _ _
  have hk := k.isLt
  have hl := l.isLt
  simp only [NB] at hk
  have hi : 128 * k.val + l.val < MR := by simp only [MR]; omega
  have ha := amax_apply x0 x1 x2 x3 arg1 harg1 arg2 harg2 arg3 harg3 arg4 harg4 arg7 arg8 k n ⟨l.val % 8, by omega⟩ l
    ⟨128 * k.val + l.val, hi⟩ (by simp only; omega)
  refine (pieceHs_apply _ l ?_).trans ?_
  · rw [ha]; exact rowMax_nonneg _
  rw [ha]
  unfold hsV
  congr 3
  · apply Fin.ext; show 128 * k.val + l.val = 128 * k.val + 1 * l.val; omega

end

/-! ## The two blocks after a grid point -/

variable (arg1 : Memref sig .tc .vmem SX .fp8e4m3) (harg1 : arg1.IsWhole)
  (arg2 : Memref sig .tc .vmem SXs .f32) (harg2 : arg2.IsWhole)
  (arg3 : Memref sig .tc .vmem SW .fp8e4m3) (harg3 : arg3.IsWhole)
  (arg4 : Memref sig .tc .vmem SWs .f32) (harg4 : arg4.IsWhole)
  (arg7 : Memref sig .tc .vmem SRow .f32) (arg8 : Memref sig .tc .vmem SAmax .f32)

/-- The codes' buffer after a grid point, element by element. -/
theorem out4_eq : out4 arg1 harg1 arg2 harg2 arg3 harg3 arg4 harg4 arg7 x0 x1 x2 x3
    = codesV x0 x1 x2 x3 := by
  funext y
  unfold out4
  refine View.read_writes_apply_of_pieces (Val := Elt Ideal) (s := SCodes) (e := .fp8e4m3) VO0_4 VO0_4.junk (codesV x0 x1 x2 x3) (codesList arg1 harg1 arg2 harg2 arg3 harg3 arg4 harg4 arg7 x0 x1 x2 x3) (codes_pieces x0 x1 x2 x3 arg1 harg1 arg2 harg2 arg3 harg3 arg4 harg4 arg7) y ?_
  have h0 : (y 0).val < MR := (y 0).isLt
  have h1 : (y 1).val < 128 * NG := (y 1).isLt
  have hp : (y 1).val / 256 < NP := by simp only [NP, NG] at *; omega
  have hr : (y 0).val / 32 < NR := by simp only [NR, MR] at *; omega
  have hq : (y 1).val / 128 % 2 < 2 := by omega
  refine ⟨_, mem_downs_of ⟨_, hp⟩ (mem_downs_of ⟨_, hr⟩ (mem_down_of ⟨_, hq⟩)), ?_⟩
  rw [Rect.mem_set_unit]
  intro d
  match d with
  | ⟨0, _⟩ =>
    show 32 * ((y 0).val / 32) ≤ (y 0).val ∧ (y 0).val < 32 * ((y 0).val / 32) + 32
    omega
  | ⟨1, _⟩ =>
    show 128 * (2 * ((y 1).val / 256) + (y 1).val / 128 % 2) ≤ (y 1).val
      ∧ (y 1).val < 128 * (2 * ((y 1).val / 256) + (y 1).val / 128 % 2) + 128
    omega

/-- The scales' buffer after a grid point, element by element. -/
theorem out5_eq : out5 arg1 harg1 arg2 harg2 arg3 harg3 arg4 harg4 arg7 arg8 x0 x1 x2 x3
    = hsV x0 x1 x2 x3 := by
  funext y
  unfold out5
  refine View.read_writes_apply_of_pieces (Val := Elt Ideal) (s := SHs) (e := .f32) VO0_5 VO0_5.junk (hsV x0 x1 x2 x3) (hsList arg1 harg1 arg2 harg2 arg3 harg3 arg4 harg4 arg7 arg8 x0 x1 x2 x3) (hs_pieces x0 x1 x2 x3 arg1 harg1 arg2 harg2 arg3 harg3 arg4 harg4 arg7 arg8) y ?_
  have h0 : (y 0).val < 1 := (y 0).isLt
  have h1 : (y 1).val < NG := (y 1).isLt
  have h2 : (y 2).val < MR := (y 2).isLt
  have hk : (y 2).val / 128 < NB := by simp only [NB, MR] at *; omega
  refine ⟨_, mem_downs_of ⟨_, hk⟩ (mem_down_of ⟨_, h1⟩), ?_⟩
  rw [Rect.mem_set_unit]
  intro d
  match d with
  | ⟨0, _⟩ =>
    show 0 ≤ (y 0).val ∧ (y 0).val < 0 + 1
    omega
  | ⟨1, _⟩ =>
    show (y 1).val ≤ (y 1).val ∧ (y 1).val < (y 1).val + 1
    omega
  | ⟨2, _⟩ =>
    show 128 * ((y 2).val / 128) ≤ (y 2).val ∧ (y 2).val < 128 * ((y 2).val / 128) + 128
    omega

end

end Cert.KernelIdeal.Hand

end
-- ==== Proof.Result.lean ====
/- The two results as functions of the four arguments: the meeting point of the two programs. -/
module

public import proofs.«01_k».proof.Proof.Scalar
public import Idealize.ShloMosaic.Lib.ValueIdxCore

@[expose] public section

noncomputable section

namespace Cert.Hand

open Idealize.ShloMosaic

/-- The arguments' and results' shapes. -/
abbrev ShapeX : Shape := ⟨3, ![4, 8192, 2048]⟩
abbrev ShapeXs : Shape := ⟨3, ![4, 8192, 1]⟩
abbrev ShapeW : Shape := ⟨2, ![2048, 4096]⟩
abbrev ShapeWs : Shape := ⟨1, ![4096]⟩
abbrev ShapeCodes : Shape := ⟨2, ![32768, 2048]⟩
abbrev ShapeHs : Shape := ⟨3, ![4, 16, 8192]⟩

/-- The batch of a row and its place in it; the row of a batch and a place. -/
def rowB (r : Fin 32768) : Fin 4 := ⟨r.val / 8192, by omega⟩
def rowS (r : Fin 32768) : Fin 8192 := ⟨r.val % 8192, by omega⟩
def rowOf (b : Fin 4) (l : Fin 8192) : Fin 32768 := ⟨8192 * b.val + l.val, by omega⟩

/-- The gate's column of group `n` at place `j`, and the up's. -/
def gateC (n : Fin 16) (j : Fin 128) : Fin 4096 := ⟨256 * n.val + j.val, by omega⟩
def upC (n : Fin 16) (j : Fin 128) : Fin 4096 := ⟨256 * n.val + 128 + j.val, by omega⟩

/-- The group of a column of the codes, and its place in the group. -/
def colN (c : Fin 2048) : Fin 16 := ⟨c.val / 128, by omega⟩
def colJ (c : Fin 2048) : Fin 128 := ⟨c.val % 128, by omega⟩

variable (X : ShapeX.Idx → EReal) (XS : ShapeXs.Idx → EReal) (W : ShapeW.Idx → EReal) (WS : ShapeWs.Idx → EReal)

/-- A row of the codes against a column of the weight. -/
def dotR (r : Fin 32768) (c : Fin 4096) : EReal := ∑ k : Fin 2048, X (ix3 (rowB r) (rowS r) k) * W (ix2 k c)

/-- `silu(gate) * up` at row `r`, group `n`, place `j`. -/
def hR (r : Fin 32768) (n : Fin 16) (j : Fin 128) : EReal :=
  hS (dotR X W r (gateC n j)) (dotR X W r (upC n j)) (XS (ix3 (rowB r) (rowS r) 0)) (WS (ix1 (gateC n j))) (WS (ix1 (upC n j)))

/-- The largest magnitude of row `r` in group `n`. -/
def aR (r : Fin 32768) (n : Fin 16) : EReal := rowMax fun j => hR X XS W WS r n j

/-- The code at row `r`, group `n`, place `j`, and the scale of row `r` and group `n`. -/
def codeR (r : Fin 32768) (n : Fin 16) (j : Fin 128) : EReal := codeS (hR X XS W WS r n j) (aR X XS W WS r n)
def scaleR (r : Fin 32768) (n : Fin 16) : EReal := Ideal.exp2 (expR (aR X XS W WS r n))

/-- The array of codes. -/
def codesR (y : ShapeCodes.Idx) : EReal := codeR X XS W WS (y 0) (colN (y 1)) (colJ (y 1))

/-- The array of scales. -/
def scalesR (y : ShapeHs.Idx) : EReal := scaleR X XS W WS (rowOf (y 0) (y 2)) (y 1)

end Cert.Hand

end
-- ==== Proof.KernelArrays.lean ====
/- The arrays the kernel leaves, as functions of its arguments. -/
module

public import proofs.«01_k».proof.Proof.KernelFrame
public import proofs.«01_k».proof.Proof.KernelValue
public import proofs.«01_k».proof.Proof.Result
public import Idealize.ShloMosaic.Lib.StableHlo.Run

@[expose] public section

set_option maxRecDepth 16384

noncomputable section

namespace Cert.KernelIdeal.Hand

open Cert.KernelIdeal Cert.KernelIdeal.Gen Cert.Hand Idealize.ShloMosaic Idealize.ShloMosaic.TcCoe

variable (m : (ℓ : Loc nD τ sig) → Buf (Elt Ideal) ℓ) (c : Dev nD)

/-- The four arguments. -/
abbrev argX : ShapeX.Idx → EReal := m ((c : Thread nD τ).loc main_arg0)
abbrev argXs : ShapeXs.Idx → EReal := m ((c : Thread nD τ).loc main_arg1)
abbrev argW : ShapeW.Idx → EReal := m ((c : Thread nD τ).loc main_arg2)
abbrev argWs : ShapeWs.Idx → EReal := m ((c : Thread nD τ).loc main_arg3)

/-! ## What the launch finds: the arguments reshaped -/

theorem V_v0 : V m c main_v0 = shapeCast S32768x2048 (m ((c : Thread nD τ).loc main_arg0)) shapeCasts_S4x8192x2048_S32768x2048 := by
  unfold V hostOps0
  simp only [StableHlo.after_cons, StableHlo.after_nil]
  rw [StableHlo.reshape_result_ne', StableHlo.reshape_result_ne', StableHlo.reshape_result']
  · rfl
  all_goals decide

theorem V_v1 : V m c main_v1 = shapeCast S4x1x8192 (m ((c : Thread nD τ).loc main_arg1)) shapeCasts_S4x8192x1_S4x1x8192 := by
  unfold V hostOps0
  simp only [StableHlo.after_cons, StableHlo.after_nil]
  rw [StableHlo.reshape_result_ne', StableHlo.reshape_result', StableHlo.reshape_result_ne']
  · rfl
  all_goals decide

theorem V_v2 : V m c main_v2 = shapeCast S1x4096 (m ((c : Thread nD τ).loc main_arg3)) shapeCasts_S4096_S1x4096 := by
  unfold V hostOps0
  simp only [StableHlo.after_cons, StableHlo.after_nil]
  rw [StableHlo.reshape_result', StableHlo.reshape_result_ne', StableHlo.reshape_result_ne']
  · rfl
  all_goals decide

/-! ## The blocks of a grid point: 512 rows of the codes, their scales, the whole weight and its scales -/

theorem idx_facts : ∀ t : Fin cfg0.N,
    win0_0.index t (0 : Fin 2) = t.val ∧ win0_0.index t (1 : Fin 2) = 0
    ∧ win0_1.index t (0 : Fin 3) = t.val / 16 ∧ win0_1.index t (1 : Fin 3) = 0 ∧ win0_1.index t (2 : Fin 3) = t.val % 16
    ∧ win0_2.index t (0 : Fin 2) = 0 ∧ win0_2.index t (1 : Fin 2) = 0 ∧ win0_3.index t (0 : Fin 2) = 0 ∧ win0_3.index t (1 : Fin 2) = 0
    ∧ win0_4.index t (0 : Fin 2) = t.val ∧ win0_4.index t (1 : Fin 2) = 0
    ∧ win0_5.index t (0 : Fin 3) = t.val / 16 ∧ win0_5.index t (1 : Fin 3) = 0 ∧ win0_5.index t (2 : Fin 3) = t.val % 16 :=
  (by decide +kernel : ∀ t : Fin grid0.N, _)

theorem points : cfg0.N = 64 := by decide

variable (t : Fin cfg0.N)

/-- Row `i` of the point's block, among all rows. -/
def row (i : Fin 512) : Fin 32768 := ⟨512 * t.val + i.val, by have h : t.val < 64 := lt_of_lt_of_eq t.isLt points; omega⟩

theorem blk0 (i : Fin 512) (k : Fin 2048) : iblk m c 0 t (ix2 i k) = argX m c (ix3 (rowB (row t i)) (rowS (row t i)) k) := by
  obtain ⟨e0, e1, -⟩ := idx_facts t
  have e : ((cfg0.win 0).blk t).view.emb (ix2 i k) = ix2 (row t i) k := by
    funext a; apply Fin.ext
    match a with
    | ⟨0, _⟩ => show win0_0.index t (0 : Fin 2) * 512 + 1 * i.val = 512 * t.val + i.val; omega
    | ⟨1, _⟩ => show win0_0.index t (1 : Fin 2) * 2048 + 1 * k.val = k.val; omega
  show V m c main_v0 (((cfg0.win 0).blk t).view.emb (ix2 i k)) = _
  rw [e, V_v0]
  refine shapeCast_apply _ _ _ (ix3 (rowB (row t i)) (rowS (row t i)) k) ?_
  rw [Shape.rowMajor_val_three, Shape.rowMajor_val_two]
  show ((row t i).val / 8192 * 8192 + (row t i).val % 8192) * 2048 + k.val = (row t i).val * 2048 + k.val
  omega

theorem blk1 (i : Fin 512) : iblk m c 1 t (ix3 0 0 i) = argXs m c (ix3 (rowB (row t i)) (rowS (row t i)) 0) := by
  obtain ⟨-, -, e0, e1, e2, -⟩ := idx_facts t
  have hr : (row t i).val = 512 * t.val + i.val := rfl
  have e : ((cfg0.win 1).blk t).view.emb (ix3 (0 : Fin 1) (0 : Fin 1) i) = ix3 (rowB (row t i)) 0 (rowS (row t i)) := by
    funext a; apply Fin.ext
    match a with
    | ⟨0, _⟩ => show win0_1.index t (0 : Fin 3) * 1 + 1 * 0 = (row t i).val / 8192; omega
    | ⟨1, _⟩ => show win0_1.index t (1 : Fin 3) * 1 + 1 * 0 = 0; omega
    | ⟨2, _⟩ => show win0_1.index t (2 : Fin 3) * 512 + 1 * i.val = (row t i).val % 8192; omega
  show V m c main_v1 (((cfg0.win 1).blk t).view.emb (ix3 0 0 i)) = _
  rw [e, V_v1]
  refine shapeCast_apply _ _ _ (ix3 (rowB (row t i)) (rowS (row t i)) 0) ?_
  rw [Shape.rowMajor_val_three, Shape.rowMajor_val_three]
  show ((row t i).val / 8192 * 8192 + (row t i).val % 8192) * 1 + 0 = ((row t i).val / 8192 * 1 + 0) * 8192 + (row t i).val % 8192
  omega

theorem blk2 (k : Fin 2048) (d : Fin 4096) : iblk m c 2 t (ix2 k d) = argW m c (ix2 k d) := by
  obtain ⟨-, -, -, -, -, e0, e1, -⟩ := idx_facts t
  have e : ((cfg0.win 2).blk t).view.emb (ix2 k d) = ix2 k d := by
    funext a; apply Fin.ext
    match a with
    | ⟨0, _⟩ => show win0_2.index t (0 : Fin 2) * 2048 + 1 * k.val = k.val; omega
    | ⟨1, _⟩ => show win0_2.index t (1 : Fin 2) * 4096 + 1 * d.val = d.val; omega
  show V m c main_arg2 (((cfg0.win 2).blk t).view.emb (ix2 k d)) = _
  rw [e, V_main_arg2]

theorem blk3 (d : Fin 4096) : iblk m c 3 t (ix2 0 d) = argWs m c (ix1 d) := by
  obtain ⟨-, -, -, -, -, -, -, e0, e1, -⟩ := idx_facts t
  have e : ((cfg0.win 3).blk t).view.emb (ix2 (0 : Fin 1) d) = ix2 0 d := by
    funext a; apply Fin.ext
    match a with
    | ⟨0, _⟩ => show win0_3.index t (0 : Fin 2) * 1 + 1 * 0 = 0; omega
    | ⟨1, _⟩ => show win0_3.index t (1 : Fin 2) * 4096 + 1 * d.val = d.val; omega
  show V m c main_v2 (((cfg0.win 3).blk t).view.emb (ix2 0 d)) = _
  rw [e, V_v2]
  refine shapeCast_apply _ _ _ (ix1 d) ?_
  rw [Shape.rowMajor_val_one, Shape.rowMajor_val_two]
  show d.val = 0 * 4096 + d.val
  omega

/-! ## The values of a row -/

theorem hV_eq (i : Fin 512) (n : Fin 16) (j : Fin 128) :
    hV (iblk m c 0 t) (iblk m c 1 t) (iblk m c 2 t) (iblk m c 3 t) i n j = hR (argX m c) (argXs m c) (argW m c) (argWs m c) (row t i) n j := by
  have hd : ∀ d : Fin 4096, dotV (iblk m c 0 t) (iblk m c 2 t) i d = dotR (argX m c) (argW m c) (row t i) d := fun d =>
    Finset.sum_congr rfl fun k _ => congrArg₂ (· * ·) (blk0 m c t i k) (blk2 m c t k d)
  have hg := hd (gateC n j)
  have hu := hd (upC n j)
  have h1 := blk1 m c t i
  have h3 := blk3 m c t (gateC n j)
  have h4 := blk3 m c t (upC n j)
  unfold hR
  rw [← hg, ← hu, ← h1, ← h3, ← h4]
  rfl

theorem aV_eq (i : Fin 512) (n : Fin 16) :
    aV (iblk m c 0 t) (iblk m c 1 t) (iblk m c 2 t) (iblk m c 3 t) i n = aR (argX m c) (argXs m c) (argW m c) (argWs m c) (row t i) n :=
  congrArg rowMax (funext fun j => hV_eq m c t i n j)

/-! ## The arrays -/

theorem emb4 (i : Fin 512) (d : Fin 2048) : ((cfg0.win 4).blk t).view.emb (ix2 i d) = ix2 (row t i) d := by
  obtain ⟨-, -, -, -, -, -, -, -, -, e0, e1, -⟩ := idx_facts t
  funext a; apply Fin.ext
  match a with
  | ⟨0, _⟩ => show win0_4.index t (0 : Fin 2) * 512 + 1 * i.val = 512 * t.val + i.val; omega
  | ⟨1, _⟩ => show win0_4.index t (1 : Fin 2) * 2048 + 1 * d.val = d.val; omega

theorem emb5 (n : Fin 16) (i : Fin 512) : ((cfg0.win 5).blk t).view.emb (ix3 0 n i) = ix3 (rowB (row t i)) n (rowS (row t i)) := by
  obtain ⟨-, -, -, -, -, -, -, -, -, -, -, e0, e1, e2⟩ := idx_facts t
  have hr : (row t i).val = 512 * t.val + i.val := rfl
  funext a; apply Fin.ext
  match a with
  | ⟨0, _⟩ => show win0_5.index t (0 : Fin 3) * 1 + 1 * 0 = (row t i).val / 8192; omega
  | ⟨1, _⟩ => show win0_5.index t (1 : Fin 3) * 16 + 1 * n.val = n.val; omega
  | ⟨2, _⟩ => show win0_5.index t (2 : Fin 3) * 512 + 1 * i.val = (row t i).val % 8192; omega

theorem point4 (i : Fin 512) (d : Fin 2048) :
    codesV (iblk m c 0 t) (iblk m c 1 t) (iblk m c 2 t) (iblk m c 3 t) (ix2 i d)
      = codesR (argX m c) (argXs m c) (argW m c) (argWs m c) (ix2 (row t i) d) :=
  congrArg₂ codeS (hV_eq m c t i (colN d) (colJ d)) (aV_eq m c t i (colN d))

theorem rowOf_row (r : Fin 32768) : rowOf (rowB r) (rowS r) = r := by
  apply Fin.ext; show 8192 * (r.val / 8192) + r.val % 8192 = r.val; omega

theorem point5 (n : Fin 16) (i : Fin 512) :
    hsV (iblk m c 0 t) (iblk m c 1 t) (iblk m c 2 t) (iblk m c 3 t) (ix3 0 n i)
      = scalesR (argX m c) (argXs m c) (argW m c) (argWs m c) (ix3 (rowB (row t i)) n (rowS (row t i))) := by
  refine (congrArg (fun a => Ideal.exp2 (expR a)) (aV_eq m c t i n)).trans ?_
  show scaleR _ _ _ _ (row t i) n = scaleR _ _ _ _ (rowOf (rowB (row t i)) (rowS (row t i))) n
  rw [rowOf_row]

/-- The point that writes row `r`, and the row's place in its block. -/
def pt (r : Fin 32768) : Fin cfg0.N := ⟨r.val / 512, lt_of_lt_of_eq (by omega : r.val / 512 < 64) points.symm⟩
def pl (r : Fin 32768) : Fin 512 := ⟨r.val % 512, by omega⟩

theorem row_pt (r : Fin 32768) : row (pt r) (pl r) = r := by
  apply Fin.ext; show 512 * (r.val / 512) + r.val % 512 = r.val; omega

/-- The codes the kernel leaves. -/
theorem codes_final : (dats m 0 c).arrAt 4 cfg0.N = codesR (argX m c) (argXs m c) (argW m c) (argWs m c) := by
  refine (dats m 0 c).arrAt_eq_of_cover 4 (codesR (argX m c) (argXs m c) (argW m c) (argWs m c)) (fun t _ => ?_) fun y => ?_
  · rw [flushed4]
    funext j
    obtain ⟨i, d, rfl⟩ : ∃ (i : Fin 512) (d : Fin 2048), j = ix2 i d := ⟨j 0, j 1, by funext a; match a with | ⟨0, _⟩ => rfl | ⟨1, _⟩ => rfl⟩
    refine (congrFun (out4_eq _ _ _ _ _ _ _ _ _ _ _ _ _) (ix2 i d)).trans ?_
    exact (point4 m c t i d).trans (congrArg (codesR (argX m c) (argXs m c) (argW m c) (argWs m c)) (emb4 t i d).symm)
  · obtain ⟨r, d, rfl⟩ : ∃ (r : Fin 32768) (d : Fin 2048), y = ix2 r d := ⟨y 0, y 1, by funext a; match a with | ⟨0, _⟩ => rfl | ⟨1, _⟩ => rfl⟩
    refine ⟨pt r, flush0_4 _, ?_⟩
    have h := ((cfg0.win 4).blk (pt r)).view.emb_mem_set (ix2 (pl r) d)
    rwa [emb4, row_pt] at h

/-- The scales the kernel leaves. -/
theorem scales_final : (dats m 0 c).arrAt 5 cfg0.N = scalesR (argX m c) (argXs m c) (argW m c) (argWs m c) := by
  refine (dats m 0 c).arrAt_eq_of_cover 5 (scalesR (argX m c) (argXs m c) (argW m c) (argWs m c)) (fun t _ => ?_) fun y => ?_
  · rw [flushed5]
    funext j
    obtain ⟨z, n, i, rfl⟩ : ∃ (z : Fin 1) (n : Fin 16) (i : Fin 512), j = ix3 z n i :=
      ⟨j 0, j 1, j 2, by funext a; match a with | ⟨0, _⟩ => rfl | ⟨1, _⟩ => rfl | ⟨2, _⟩ => rfl⟩
    obtain rfl : z = 0 := Subsingleton.elim _ _
    refine (congrFun (out5_eq _ _ _ _ _ _ _ _ _ _ _ _ _ _) (ix3 0 n i)).trans ?_
    exact (point5 m c t n i).trans (congrArg (scalesR (argX m c) (argXs m c) (argW m c) (argWs m c)) (emb5 t n i).symm)
  · obtain ⟨b, n, l, rfl⟩ : ∃ (b : Fin 4) (n : Fin 16) (l : Fin 8192), y = ix3 b n l :=
      ⟨y 0, y 1, y 2, by funext a; match a with | ⟨0, _⟩ => rfl | ⟨1, _⟩ => rfl | ⟨2, _⟩ => rfl⟩
    have eb : rowB (rowOf b l) = b := by apply Fin.ext; show (8192 * b.val + l.val) / 8192 = b.val; omega
    have el : rowS (rowOf b l) = l := by apply Fin.ext; show (8192 * b.val + l.val) % 8192 = l.val; omega
    refine ⟨pt (rowOf b l), flush0_5 _, ?_⟩
    have h := ((cfg0.win 5).blk (pt (rowOf b l))).view.emb_mem_set (ix3 0 n (pl (rowOf b l)))
    rwa [emb5, row_pt, eb, el] at h

end Cert.KernelIdeal.Hand

end
-- ==== Proof.ReferenceBlocks.lean ====
/- What the reference stores, as ONE family of pieces per output: its groups are the same sequence of operations at other
   columns, so its lists of pieces are the lists written here by index. -/
module

public import proofs.«01_k».proof.Proof.Gen.ReferenceIdeal.Value
public import proofs.«01_k».proof.Proof.Lists

@[expose] public section

noncomputable section

namespace Cert.ReferenceIdeal.Hand

open Cert.ReferenceIdeal Cert.ReferenceIdeal.Gen Cert.Hand Idealize.ShloMosaic Idealize.ShloMosaic.TcCoe

variable {F : FTy → Type} [FloatOps F] [Named F]

/-! ## The operations of one group -/

/-- The product of all rows with 128 columns. -/
def refDot (x : Vec F S32768x2048 .fp8e4m3) (w : Vec F S2048x128 .fp8e4m3) : FVec F S32768x128 .f32 :=
  matmul dot_S32768x2048_S2048x128_S32768x128_1_0_0_1_n_n none
    (shapeCast S32768x2048 x shapeCasts_S32768x2048_S32768x2048) w (constant S32768x128 .f32 0x00000000#32)

/-- A product with its rows' and columns' scales. -/
def refScaled (p : FVec F S32768x128 .f32) (xs : Vec F S32768x1 .f32) (s : Vec F S1x128 .f32) : FVec F S32768x128 .f32 :=
  mulf (mulf p (broadcastTo S32768x128 (shapeCast S32768x1 xs shapeCasts_S32768x1_S32768x1) broadcasts_S32768x1_S32768x128))
    (broadcastTo S32768x128 (shapeCast S1x128 s shapeCasts_S1x128_S1x128) broadcasts_S1x128_S32768x128)

/-- `h = silu(gate) * up`. -/
def refH (g u : FVec F S32768x128 .f32) (xs : Vec F S32768x1 .f32) (sg su : Vec F S1x128 .f32) : FVec F S32768x128 .f32 :=
  mulf (mulf (refScaled g xs sg) (logistic (refScaled g xs sg))) (refScaled u xs su)

/-- The largest magnitude of each row. -/
def refA (h : FVec F S32768x128 .f32) : FVec F S32768x1 .f32 :=
  shapeCast S32768x1 (multiReduction .maximumf [1] S32768 (absf h) 0xFF800000#32 reduces_S32768x128_S32768 (.inl rfl) rfl)
    shapeCasts_S32768_S32768x1

/-- A row's exponent, from its largest magnitude. -/
def refE (a : FVec F S32768x1 .f32) : FVec F S32768x1 .f32 :=
  have y : FVec F S32768x1 .f32 := mulf a (broadcast S32768x1 (Scalar.ofBits .f32 0x3B124925#32))
  select (andi (cmpf .oge y (broadcast S32768x1 (Scalar.ofBits .f32 0x00800000#32)))
      (cmpf .ole a (broadcast S32768x1 (Scalar.ofBits .f32 0x7F7FFFFF#32))))
    (addf (floor (divf (log y) (broadcast S32768x1 (Named.named κ "ln2" 0x3F317218#32)))) (broadcast S32768x1 (Scalar.ofBits .f32 0x3F800000#32)))
    (broadcast S32768x1 (Scalar.ofBits .f32 0x00000000#32))

/-- The codes of one group. -/
def refCodes (h : FVec F S32768x128 .f32) : FVec F S32768x128 .fp8e4m3 :=
  truncf .fp8e4m3 (minimumf (broadcast S32768x128 (Scalar.ofBits .f32 0x43E00000#32)) (maximumf (broadcast S32768x128 (Scalar.ofBits .f32 0xC3E00000#32))
    (mulf h (broadcastTo S32768x128 (exp2 (subf (broadcast S32768x1 (Scalar.ofBits .f32 0x00000000#32)) (refE (refA h))))
      broadcasts_S32768x1_S32768x128)))) bitsLt_fp8e4m3_f32

/-- The scales of one group. -/
def refHs (h : FVec F S32768x128 .f32) : FVec F S4x1x8192 .f32 :=
  shapeCast S4x1x8192 (shapeCast S4x8192 (exp2 (refE (refA h))) shapeCasts_S32768x1_S4x8192) shapeCasts_S4x8192_S4x1x8192

/-! ## The rectangles -/

theorem inbX : ∀ a, (![0, 0] : Fin 2 → ℕ) a + S32768x2048.size a ≤ S32768x2048.size a := by decide
theorem inbXs : ∀ a, (![0, 0] : Fin 2 → ℕ) a + S32768x1.size a ≤ S32768x1.size a := by decide
theorem inbW (k : Fin 32) : ∀ a, (![0, 128 * k.val] : Fin 2 → ℕ) a + S2048x128.size a ≤ S2048x4096.size a := by
  revert k; decide +kernel
theorem inbWs (k : Fin 32) : ∀ a, (![0, 128 * k.val] : Fin 2 → ℕ) a + S1x128.size a ≤ S1x4096.size a := by
  revert k; decide +kernel
theorem inbCodes (n : Fin 16) : ∀ a, (![0, 128 * n.val] : Fin 2 → ℕ) a + S32768x128.size a ≤ S32768x2048.size a := by
  revert n; decide +kernel
theorem inbHs (n : Fin 16) : ∀ a, (![0, n.val, 0] : Fin 3 → ℕ) a + S4x1x8192.size a ≤ S4x16x8192.size a := by
  revert n; decide +kernel

abbrev rX : Rect S32768x2048 := Rect.unit ![0, 0] S32768x2048.size inbX
abbrev rXs : Rect S32768x1 := Rect.unit ![0, 0] S32768x1.size inbXs
abbrev rW (k : Fin 32) : Rect S2048x4096 := Rect.unit ![0, 128 * k.val] S2048x128.size (inbW k)
abbrev rWs (k : Fin 32) : Rect S1x4096 := Rect.unit ![0, 128 * k.val] S1x128.size (inbWs k)
abbrev rCodes (n : Fin 16) : Rect S32768x2048 := Rect.unit ![0, 128 * n.val] S32768x128.size (inbCodes n)
abbrev rHs (n : Fin 16) : Rect S4x16x8192 := Rect.unit ![0, n.val, 0] S4x1x8192.size (inbHs n)

/-- The gate's and the up's columns of group `n`, among all of the weight's 32 times 128. -/
def gcol (n : Fin 16) : Fin 32 := ⟨2 * n.val, by omega⟩
def ucol (n : Fin 16) : Fin 32 := ⟨2 * n.val + 1, by omega⟩

/-! ## The stores -/

variable (x0 : Vec F S32768x2048 .fp8e4m3) (x1 : Vec F S32768x1 .f32) (x2 : Vec F S2048x4096 .fp8e4m3) (x3 : Vec F S1x4096 .f32)

/-- `h` of group `n`. -/
def hAt (n : Fin 16) : FVec F S32768x128 .f32 :=
  refH (refDot (View.ld x0 rX) (View.ld x2 (rW (gcol n)))) (refDot (View.ld x0 rX) (View.ld x2 (rW (ucol n)))) (View.ld x1 rXs)
    (View.ld x3 (rWs (gcol n))) (View.ld x3 (rWs (ucol n)))

def codesList : List (View.Piece (Elt F) S32768x2048 .fp8e4m3) := down 16 fun n => ⟨rCodes n, refCodes (hAt x0 x1 x2 x3 n)⟩
def hsList : List (View.Piece (Elt F) S4x16x8192 .f32) := down 16 fun n => ⟨rHs n, refHs (hAt x0 x1 x2 x3 n)⟩

theorem codes_eq : out0_4 x0 x1 x2 x3 = View.canon (codesList x0 x1 x2 x3) := by
  sl_kernel_rfl

theorem hs_eq : out0_5 x0 x1 x2 x3 = View.canon (hsList x0 x1 x2 x3) := by
  sl_kernel_rfl

end Cert.ReferenceIdeal.Hand

end
-- ==== Proof.ReferenceValue.lean ====
/- The reference's two results, element by element. -/
module

public import proofs.«01_k».proof.Proof.ReferenceBlocks
public import proofs.«01_k».proof.Proof.Scalar
public import Idealize.ShloMosaic.Lib.MatmulPlain
public import Idealize.ShloMosaic.Lib.Writes

@[expose] public section

noncomputable section

namespace Cert.ReferenceIdeal.Hand

open Cert.ReferenceIdeal Cert.ReferenceIdeal.Gen Cert.Hand Idealize.ShloMosaic Idealize.ShloMosaic.TcCoe

/-- The constant under the logarithm is `log 2`. -/
theorem ln2 : Named.named (F := Ideal) Cert.ReferenceIdeal.κ "ln2" (φ := .f32) 0x3F317218#32 = ((Real.log 2 : ℝ) : EReal) :=
  IdealRules.named_const.ideal_named_scalar _ _ _ _ rfl

/-- A product, at an index. -/
theorem refDot_apply (x : Vec Ideal S32768x2048 .fp8e4m3) (w : Vec Ideal S2048x128 .fp8e4m3) (i : Fin 32768) (j : Fin 128) :
    refDot x w (ix2 i j) = ∑ k : Fin 2048, x (ix2 i k) * w (ix2 k j) := by
  unfold refDot
  refine (Ideal.matmul_plain_apply none _ _ _ i j).trans ?_
  have hz : Ideal.ofBits .f32 0x00000000#32 = 0 := by simp [Ideal.ofBits, Ideal.ieee]
  show Ideal.ofBits .f32 0x00000000#32 + _ = _
  rw [hz, zero_add]
  refine Finset.sum_congr rfl fun k _ => ?_
  congr 1
  exact congrFun (shapeCast_self _ _) (ix2 i k)

/-- `h`, at an index. -/
theorem refH_apply (g u : FVec Ideal S32768x128 .f32) (xs : Vec Ideal S32768x1 .f32) (sg su : Vec Ideal S1x128 .f32) (i : Fin 32768) (j : Fin 128) :
    refH g u xs sg su (ix2 i j) = hS (g (ix2 i j)) (u (ix2 i j)) (xs (ix2 i 0)) (sg (ix2 0 j)) (su (ix2 0 j)) := by
  unfold hS
  pointwise [refH, refScaled]

/-- A row's largest magnitude, at an index. -/
theorem refA_apply (h : FVec Ideal S32768x128 .f32) (i : Fin 32768) : refA h (ix2 i 0) = rowMax fun j => h (ix2 i j) := by
  unfold rowMax
  pointwise [refA]
  rfl

/-- A row's exponent, at an index. -/
theorem refE_apply (a : FVec Ideal S32768x1 .f32) (i : Fin 32768) : refE a (ix2 i 0) = expR (a (ix2 i 0)) := by
  unfold expR overMax
  pointwise [refE, ln2]

/-- The exponent of a row of `h`. -/
theorem refEA_apply (h : FVec Ideal S32768x128 .f32) (i : Fin 32768) : refE (refA h) (ix2 i 0) = expR (rowMax fun j => h (ix2 i j)) :=
  (refE_apply _ i).trans (congrArg expR (refA_apply h i))

/-- The codes' operations over any exponents. -/
theorem codesOf_apply (h : FVec Ideal S32768x128 .f32) (E : FVec Ideal S32768x1 .f32) (i : Fin 32768) (j : Fin 128) :
    (truncf .fp8e4m3 (minimumf (broadcast S32768x128 (Scalar.ofBits .f32 0x43E00000#32)) (maximumf (broadcast S32768x128 (Scalar.ofBits .f32 0xC3E00000#32))
      (mulf h (broadcastTo S32768x128 (exp2 (subf (broadcast S32768x1 (Scalar.ofBits .f32 0x00000000#32)) E))
        broadcasts_S32768x1_S32768x128)))) bitsLt_fp8e4m3_f32 : FVec Ideal S32768x128 .fp8e4m3) (ix2 i j)
      = min (Ideal.ofBits .f32 0x43E00000#32) (max (Ideal.ofBits .f32 0xC3E00000#32) (h (ix2 i j) * Ideal.exp2 (0 - E (ix2 i 0)))) := by
  pointwise
  rfl

/-- The codes of a group, at an index. -/
theorem refCodes_apply (h : FVec Ideal S32768x128 .f32) (i : Fin 32768) (j : Fin 128) :
    refCodes h (ix2 i j) = codeS (h (ix2 i j)) (rowMax fun j' => h (ix2 i j')) := by
  refine (codesOf_apply h (refE (refA h)) i j).trans ?_
  rw [refEA_apply]
  rfl

/-- The scales' reshapes. -/
theorem hsOf_apply (E : FVec Ideal S32768x1 .f32) (b : Fin 4) (l : Fin 8192) (i : Fin 32768) (hi : i.val = 8192 * b.val + l.val) :
    (shapeCast S4x1x8192 (shapeCast S4x8192 (exp2 E) shapeCasts_S32768x1_S4x8192) shapeCasts_S4x8192_S4x1x8192 : FVec Ideal S4x1x8192 .f32) (ix3 b 0 l)
      = Ideal.exp2 (E (ix2 i 0)) := by
  refine (shapeCast_apply _ _ _ (ix2 b l) ?_).trans ((shapeCast_apply _ _ _ (ix2 i 0) ?_).trans rfl)
  · rw [Shape.rowMajor_val_two, Shape.rowMajor_val_three]
    show b.val * 8192 + l.val = (b.val * 1 + 0) * 8192 + l.val
    omega
  · rw [Shape.rowMajor_val_two, Shape.rowMajor_val_two]
    show i.val * 1 + 0 = b.val * 8192 + l.val
    omega

/-- The scales of a group, at an index. -/
theorem refHs_apply (h : FVec Ideal S32768x128 .f32) (b : Fin 4) (l : Fin 8192) (i : Fin 32768) (hi : i.val = 8192 * b.val + l.val) :
    refHs h (ix3 b 0 l) = Ideal.exp2 (expR (rowMax fun j' => h (ix2 i j'))) := by
  refine (hsOf_apply (refE (refA h)) b l i hi).trans ?_
  rw [refEA_apply]

section
variable (x0 : Vec Ideal S32768x2048 .fp8e4m3) (x1 : Vec Ideal S32768x1 .f32) (x2 : Vec Ideal S2048x4096 .fp8e4m3) (x3 : Vec Ideal S1x4096 .f32)

/-- The gate's column of group `n` at place `j`, and the up's. -/
def gateCol (n : Fin 16) (j : Fin 128) : Fin 4096 := ⟨256 * n.val + j.val, by omega⟩
def upCol (n : Fin 16) (j : Fin 128) : Fin 4096 := ⟨256 * n.val + 128 + j.val, by omega⟩

/-- A row against a column of the weight. -/
def dotV (i : Fin 32768) (c : Fin 4096) : EReal := ∑ k : Fin 2048, x0 (ix2 i k) * x2 (ix2 k c)

/-- `h` of row `i`, group `n`, place `j`. -/
def hV (i : Fin 32768) (n : Fin 16) (j : Fin 128) : EReal :=
  hS (dotV x0 x2 i (gateCol n j)) (dotV x0 x2 i (upCol n j)) (x1 (ix2 i 0)) (x3 (ix2 0 (gateCol n j))) (x3 (ix2 0 (upCol n j)))

/-- The largest magnitude of row `i` in group `n`. -/
def aV (i : Fin 32768) (n : Fin 16) : EReal := rowMax fun j => hV x0 x1 x2 x3 i n j

theorem dot_apply (k : Fin 32) (i : Fin 32768) (j : Fin 128) (c : Fin 4096) (hc : c.val = 128 * k.val + j.val) :
    refDot (View.ld x0 rX) (View.ld x2 (rW k)) (ix2 i j) = dotV x0 x2 i c := by
  rw [refDot_apply]
  unfold dotV
  refine Finset.sum_congr rfl fun m _ => ?_
  congr 1
  · show x0 _ = x0 _
    congr 1
    refine Rect.emb_eq_of_coords rX _ _ fun d => ?_
    match d with
    | ⟨0, _⟩ => show i.val = 0 + 1 * i.val; omega
    | ⟨1, _⟩ => show m.val = 0 + 1 * m.val; omega
  · show x2 _ = x2 _
    congr 1
    refine Rect.emb_eq_of_coords (rW k) _ _ fun d => ?_
    match d with
    | ⟨0, _⟩ => show m.val = 0 + 1 * m.val; omega
    | ⟨1, _⟩ => show c.val = 128 * k.val + 1 * j.val; omega

theorem ws_apply (k : Fin 32) (j : Fin 128) (c : Fin 4096) (hc : c.val = 128 * k.val + j.val) :
    View.ld x3 (rWs k) (ix2 0 j) = x3 (ix2 0 c) := by
  show x3 _ = x3 _
  congr 1
  refine Rect.emb_eq_of_coords (rWs k) _ _ fun d => ?_
  match d with
  | ⟨0, _⟩ => rfl
  | ⟨1, _⟩ => show c.val = 128 * k.val + 1 * j.val; omega

theorem xs_apply (i : Fin 32768) : View.ld x1 rXs (ix2 i 0) = x1 (ix2 i 0) := by
  show x1 _ = x1 _
  congr 1
  refine Rect.emb_eq_of_coords rXs _ _ fun d => ?_
  match d with
  | ⟨0, _⟩ => show i.val = 0 + 1 * i.val; omega
  | ⟨1, _⟩ => rfl

theorem hAt_apply (n : Fin 16) (i : Fin 32768) (j : Fin 128) : hAt x0 x1 x2 x3 n (ix2 i j) = hV x0 x1 x2 x3 i n j := by
  have hg : (gateCol n j).val = 128 * (gcol n).val + j.val := by
    show 256 * n.val + j.val = 128 * (2 * n.val) + j.val; omega
  have hu : (upCol n j).val = 128 * (ucol n).val + j.val := by
    show 256 * n.val + 128 + j.val = 128 * (2 * n.val + 1) + j.val; omega
  unfold hAt hV
  rw [refH_apply, dot_apply x0 x2 _ i j _ hg, dot_apply x0 x2 _ i j _ hu, xs_apply x1 i, ws_apply x3 _ j _ hg, ws_apply x3 _ j _ hu]

/-- The code at row `i` and column `c`. -/
def codesG (i : Fin 32768) (c : Fin 2048) : EReal :=
  codeS (hV x0 x1 x2 x3 i ⟨c.val / 128, by omega⟩ ⟨c.val % 128, by omega⟩) (aV x0 x1 x2 x3 i ⟨c.val / 128, by omega⟩)

theorem codesG_eq (i : Fin 32768) (c : Fin 2048) (n : Fin 16) (j : Fin 128) (hc : c.val = 128 * n.val + j.val) :
    codesG x0 x1 x2 x3 i c = codeS (hV x0 x1 x2 x3 i n j) (aV x0 x1 x2 x3 i n) := by
  have en : (⟨c.val / 128, by omega⟩ : Fin 16) = n := by apply Fin.ext; simp only [hc]; omega
  have ej : (⟨c.val % 128, by omega⟩ : Fin 128) = j := by apply Fin.ext; simp only [hc]; omega
  unfold codesG
  rw [en, ej]

/-- The codes at row `i`, group `n`, place `j`. -/
theorem out4_apply (i : Fin 32768) (c : Fin 2048) (n : Fin 16) (j : Fin 128) (hc : c.val = 128 * n.val + j.val) :
    out0_4 x0 x1 x2 x3 (ix2 i c) = codeS (hV x0 x1 x2 x3 i n j) (aV x0 x1 x2 x3 i n) := by
  rw [codes_eq]
  have hG := View.canon_apply_of_pieces (Val := Elt Ideal) (S := S32768x2048) (e := .fp8e4m3)
    (fun y => codesG x0 x1 x2 x3 (y 0) (y 1))
    (codesList x0 x1 x2 x3) (fun p hp x => ?_) (ix2 i c) ?_
  · exact hG.trans (codesG_eq x0 x1 x2 x3 i c n j hc)
  · obtain ⟨m, rfl⟩ := mem_down hp
    obtain ⟨a, b, rfl⟩ : ∃ (a : Fin 32768) (b : Fin 128), x = ix2 a b := ⟨x 0, x 1, by funext d; match d with | ⟨0, _⟩ => rfl | ⟨1, _⟩ => rfl⟩
    refine (refCodes_apply _ a b).trans ?_
    have e0 : ((rCodes m).emb (ix2 a b)) 0 = a := by apply Fin.ext; show 0 + 1 * a.val = a.val; omega
    have e1 : (((rCodes m).emb (ix2 a b)) 1).val = 128 * m.val + b.val := by
      show 128 * m.val + 1 * b.val = 128 * m.val + b.val; omega
    refine Eq.trans ?_ (codesG_eq x0 x1 x2 x3 _ _ m b e1).symm
    rw [e0, hAt_apply]
    unfold aV
    congr 2
    funext j'
    exact hAt_apply x0 x1 x2 x3 m a j'
  · refine ⟨_, mem_down_of n, ?_⟩
    rw [Rect.mem_set_unit]
    intro d
    match d with
    | ⟨0, _⟩ => exact ⟨Nat.zero_le _, lt_of_lt_of_eq i.isLt (Nat.zero_add _).symm⟩
    | ⟨1, _⟩ => show 128 * n.val ≤ c.val ∧ c.val < 128 * n.val + 128; omega

/-- The scale of batch `b`, group `n` and place `l`. -/
def hsG (b : Fin 4) (n : Fin 16) (l : Fin 8192) : EReal :=
  Ideal.exp2 (expR (aV x0 x1 x2 x3 ⟨8192 * b.val + l.val, by omega⟩ n))

theorem hsG_eq (b : Fin 4) (n : Fin 16) (l : Fin 8192) (i : Fin 32768) (hi : i.val = 8192 * b.val + l.val) :
    hsG x0 x1 x2 x3 b n l = Ideal.exp2 (expR (aV x0 x1 x2 x3 i n)) := by
  have e : (⟨8192 * b.val + l.val, by omega⟩ : Fin 32768) = i := Fin.ext hi.symm
  unfold hsG
  rw [e]

/-- The scales at batch `b`, group `n` and place `l`. -/
theorem out5_apply (b : Fin 4) (n : Fin 16) (l : Fin 8192) (i : Fin 32768) (hi : i.val = 8192 * b.val + l.val) :
    out0_5 x0 x1 x2 x3 (ix3 b n l) = Ideal.exp2 (expR (aV x0 x1 x2 x3 i n)) := by
  rw [hs_eq]
  have hG := View.canon_apply_of_pieces (Val := Elt Ideal) (S := S4x16x8192) (e := .f32)
    (fun y => hsG x0 x1 x2 x3 (y 0) (y 1) (y 2))
    (hsList x0 x1 x2 x3) (fun p hp x => ?_) (ix3 b n l) ?_
  · exact hG.trans (hsG_eq x0 x1 x2 x3 b n l i hi)
  · obtain ⟨m, rfl⟩ := mem_down hp
    obtain ⟨b', z, l', rfl⟩ : ∃ (b' : Fin 4) (z : Fin 1) (l' : Fin 8192), x = ix3 b' z l' :=
      ⟨x 0, x 1, x 2, by funext d; match d with | ⟨0, _⟩ => rfl | ⟨1, _⟩ => rfl | ⟨2, _⟩ => rfl⟩
    obtain rfl : z = 0 := Subsingleton.elim _ _
    obtain ⟨i', hi'⟩ : ∃ i' : Fin 32768, i'.val = 8192 * b'.val + l'.val := ⟨⟨8192 * b'.val + l'.val, by omega⟩, rfl⟩
    refine (refHs_apply _ b' l' i' hi').trans ?_
    have e0 : ((rHs m).emb (ix3 b' 0 l')) 0 = b' := by apply Fin.ext; show 0 + 1 * b'.val = b'.val; omega
    have e1 : ((rHs m).emb (ix3 b' 0 l')) 1 = m := by apply Fin.ext; show m.val + 1 * 0 = m.val; omega
    have e2 : ((rHs m).emb (ix3 b' 0 l')) 2 = l' := by apply Fin.ext; show 0 + 1 * l'.val = l'.val; omega
    rw [e0, e1, e2, hsG_eq x0 x1 x2 x3 b' m l' i' hi']
    unfold aV
    congr 3
    funext j'
    exact hAt_apply x0 x1 x2 x3 m i' j'
  · refine ⟨_, mem_down_of n, ?_⟩
    rw [Rect.mem_set_unit]
    have hb := b.isLt
    have hl := l.isLt
    intro d
    match d with
    | ⟨0, _⟩ => show 0 ≤ b.val ∧ b.val < 0 + 4; omega
    | ⟨1, _⟩ => show n.val ≤ n.val ∧ n.val < n.val + 1; omega
    | ⟨2, _⟩ => show 0 ≤ l.val ∧ l.val < 0 + 8192; omega

end

end Cert.ReferenceIdeal.Hand

end
-- ==== Proof.ReferenceArrays.lean ====
/- The arrays the reference leaves, as functions of its arguments. -/
module

public import proofs.«01_k».proof.Proof.ReferenceValue
public import proofs.«01_k».proof.Proof.Result
public import Idealize.ShloMosaic.Lib.StableHlo.Run

@[expose] public section

set_option maxRecDepth 16384

noncomputable section

namespace Cert.ReferenceIdeal.Hand

open Cert.ReferenceIdeal Cert.ReferenceIdeal.Gen Cert.Hand Idealize.ShloMosaic Idealize.ShloMosaic.TcCoe

variable (m : (ℓ : Loc nD τ sig) → Buf (Elt Ideal) ℓ) (c : Dev nD)

/-- The four arguments. -/
abbrev argX : ShapeX.Idx → EReal := m ((c : Thread nD τ).loc main_arg0)
abbrev argXs : ShapeXs.Idx → EReal := m ((c : Thread nD τ).loc main_arg1)
abbrev argW : ShapeW.Idx → EReal := m ((c : Thread nD τ).loc main_arg2)
abbrev argWs : ShapeWs.Idx → EReal := m ((c : Thread nD τ).loc main_arg3)

/-! ## What the launch finds: the arguments reshaped -/

theorem V_v0 : V m c main_v0 = shapeCast S32768x2048 (m ((c : Thread nD τ).loc main_arg0)) shapeCasts_S4x8192x2048_S32768x2048 := by
  unfold V hostOps0
  simp only [StableHlo.after_cons, StableHlo.after_nil]
  rw [StableHlo.reshape_result_ne', StableHlo.reshape_result_ne', StableHlo.reshape_result']
  · rfl
  all_goals decide

theorem V_v1 : V m c main_v1 = shapeCast S32768x1 (m ((c : Thread nD τ).loc main_arg1)) shapeCasts_S4x8192x1_S32768x1 := by
  unfold V hostOps0
  simp only [StableHlo.after_cons, StableHlo.after_nil]
  rw [StableHlo.reshape_result_ne', StableHlo.reshape_result', StableHlo.reshape_result_ne']
  · rfl
  all_goals decide

theorem V_v2 : V m c main_v2 = shapeCast S1x4096 (m ((c : Thread nD τ).loc main_arg3)) shapeCasts_S4096_S1x4096 := by
  unfold V hostOps0
  simp only [StableHlo.after_cons, StableHlo.after_nil]
  rw [StableHlo.reshape_result', StableHlo.reshape_result_ne', StableHlo.reshape_result_ne']
  · rfl
  all_goals decide

/-! ## The one grid point's blocks are the whole arrays -/

theorem idx_facts : ∀ t : Fin cfg0.N,
    win0_0.index t (0 : Fin 2) = 0 ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0 ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0 :=
  (by decide +kernel : ∀ t : Fin grid0.N, _)

variable (t : Fin cfg0.N)

theorem blk0 (r : Fin 32768) (k : Fin 2048) : iblk m c 0 t (ix2 r k) = argX m c (ix3 (rowB r) (rowS r) k) := by
  obtain ⟨e0, e1, -⟩ := idx_facts t
  have e : ((cfg0.win 0).blk t).view.emb (ix2 r k) = ix2 r k := by
    funext a; apply Fin.ext
    match a with
    | ⟨0, _⟩ => show win0_0.index t (0 : Fin 2) * 32768 + 1 * r.val = r.val; omega
    | ⟨1, _⟩ => show win0_0.index t (1 : Fin 2) * 2048 + 1 * k.val = k.val; omega
  show V m c main_v0 (((cfg0.win 0).blk t).view.emb (ix2 r k)) = _
  rw [e, V_v0]
  refine shapeCast_apply _ _ _ (ix3 (rowB r) (rowS r) k) ?_
  rw [Shape.rowMajor_val_three, Shape.rowMajor_val_two]
  show (r.val / 8192 * 8192 + r.val % 8192) * 2048 + k.val = r.val * 2048 + k.val
  omega

theorem blk1 (r : Fin 32768) : iblk m c 1 t (ix2 r 0) = argXs m c (ix3 (rowB r) (rowS r) 0) := by
  obtain ⟨-, -, e0, e1, -⟩ := idx_facts t
  have e : ((cfg0.win 1).blk t).view.emb (ix2 r (0 : Fin 1)) = ix2 r 0 := by
    funext a; apply Fin.ext
    match a with
    | ⟨0, _⟩ => show win0_1.index t (0 : Fin 2) * 32768 + 1 * r.val = r.val; omega
    | ⟨1, _⟩ => show win0_1.index t (1 : Fin 2) * 1 + 1 * 0 = 0; omega
  show V m c main_v1 (((cfg0.win 1).blk t).view.emb (ix2 r 0)) = _
  rw [e, V_v1]
  refine shapeCast_apply _ _ _ (ix3 (rowB r) (rowS r) 0) ?_
  rw [Shape.rowMajor_val_three, Shape.rowMajor_val_two]
  show (r.val / 8192 * 8192 + r.val % 8192) * 1 + 0 = r.val * 1 + 0
  omega

theorem blk2 (k : Fin 2048) (d : Fin 4096) : iblk m c 2 t (ix2 k d) = argW m c (ix2 k d) := by
  obtain ⟨-, -, -, -, e0, e1, -⟩ := idx_facts t
  have e : ((cfg0.win 2).blk t).view.emb (ix2 k d) = ix2 k d := by
    funext a; apply Fin.ext
    match a with
    | ⟨0, _⟩ => show win0_2.index t (0 : Fin 2) * 2048 + 1 * k.val = k.val; omega
    | ⟨1, _⟩ => show win0_2.index t (1 : Fin 2) * 4096 + 1 * d.val = d.val; omega
  show V m c main_arg2 (((cfg0.win 2).blk t).view.emb (ix2 k d)) = _
  rw [e, V_main_arg2]

theorem blk3 (d : Fin 4096) : iblk m c 3 t (ix2 0 d) = argWs m c (ix1 d) := by
  obtain ⟨-, -, -, -, -, -, e0, e1, -⟩ := idx_facts t
  have e : ((cfg0.win 3).blk t).view.emb (ix2 (0 : Fin 1) d) = ix2 0 d := by
    funext a; apply Fin.ext
    match a with
    | ⟨0, _⟩ => show win0_3.index t (0 : Fin 2) * 1 + 1 * 0 = 0; omega
    | ⟨1, _⟩ => show win0_3.index t (1 : Fin 2) * 4096 + 1 * d.val = d.val; omega
  show V m c main_v2 (((cfg0.win 3).blk t).view.emb (ix2 0 d)) = _
  rw [e, V_v2]
  refine shapeCast_apply _ _ _ (ix1 d) ?_
  rw [Shape.rowMajor_val_one, Shape.rowMajor_val_two]
  show d.val = 0 * 4096 + d.val
  omega

/-! ## The values of a row -/

theorem hV_eq (r : Fin 32768) (n : Fin 16) (j : Fin 128) :
    hV (iblk m c 0 t) (iblk m c 1 t) (iblk m c 2 t) (iblk m c 3 t) r n j = hR (argX m c) (argXs m c) (argW m c) (argWs m c) r n j := by
  have hd : ∀ d : Fin 4096, dotV (iblk m c 0 t) (iblk m c 2 t) r d = dotR (argX m c) (argW m c) r d := fun d =>
    Finset.sum_congr rfl fun k _ => congrArg₂ (· * ·) (blk0 m c t r k) (blk2 m c t k d)
  unfold hV hR
  rw [hd, hd, blk1, blk3, blk3]
  rfl

theorem aV_eq (r : Fin 32768) (n : Fin 16) :
    aV (iblk m c 0 t) (iblk m c 1 t) (iblk m c 2 t) (iblk m c 3 t) r n = aR (argX m c) (argXs m c) (argW m c) (argWs m c) r n :=
  congrArg rowMax (funext fun j => hV_eq m c t r n j)

/-! ## The arrays -/

theorem emb4 (j : S32768x2048.Idx) : ((cfg0.win 4).blk t).view.emb j = j := by
  obtain ⟨-, -, -, -, -, -, -, -, e0, e1, -⟩ := idx_facts t
  funext a; apply Fin.ext
  match a with
  | ⟨0, _⟩ => show win0_4.index t (0 : Fin 2) * 32768 + 1 * (j 0).val = (j 0).val; omega
  | ⟨1, _⟩ => show win0_4.index t (1 : Fin 2) * 2048 + 1 * (j 1).val = (j 1).val; omega

theorem emb5 (j : S4x16x8192.Idx) : ((cfg0.win 5).blk t).view.emb j = j := by
  obtain ⟨-, -, -, -, -, -, -, -, -, -, e0, e1, e2⟩ := idx_facts t
  funext a; apply Fin.ext
  match a with
  | ⟨0, _⟩ => show win0_5.index t (0 : Fin 3) * 4 + 1 * (j 0).val = (j 0).val; omega
  | ⟨1, _⟩ => show win0_5.index t (1 : Fin 3) * 16 + 1 * (j 1).val = (j 1).val; omega
  | ⟨2, _⟩ => show win0_5.index t (2 : Fin 3) * 8192 + 1 * (j 2).val = (j 2).val; omega

theorem point4 (j : S32768x2048.Idx) :
    out0_4 (iblk m c 0 t) (iblk m c 1 t) (iblk m c 2 t) (iblk m c 3 t) j = codesR (argX m c) (argXs m c) (argW m c) (argWs m c) j := by
  obtain ⟨r, d, rfl⟩ : ∃ (r : Fin 32768) (d : Fin 2048), j = ix2 r d := ⟨j 0, j 1, by funext a; match a with | ⟨0, _⟩ => rfl | ⟨1, _⟩ => rfl⟩
  refine (out4_apply _ _ _ _ r d (colN d) (colJ d) ?_).trans ?_
  · show d.val = 128 * (d.val / 128) + d.val % 128; omega
  · exact congrArg₂ codeS (hV_eq m c t r _ _) (aV_eq m c t r _)

theorem point5 (j : S4x16x8192.Idx) :
    out0_5 (iblk m c 0 t) (iblk m c 1 t) (iblk m c 2 t) (iblk m c 3 t) j = scalesR (argX m c) (argXs m c) (argW m c) (argWs m c) j := by
  obtain ⟨b, n, l, rfl⟩ : ∃ (b : Fin 4) (n : Fin 16) (l : Fin 8192), j = ix3 b n l :=
    ⟨j 0, j 1, j 2, by funext a; match a with | ⟨0, _⟩ => rfl | ⟨1, _⟩ => rfl | ⟨2, _⟩ => rfl⟩
  refine (out5_apply _ _ _ _ b n l (rowOf b l) rfl).trans ?_
  exact congrArg (fun a => Ideal.exp2 (expR a)) (aV_eq m c t (rowOf b l) n)

/-- The codes the reference leaves. -/
theorem codes_final : (dats m 0 c).arrAt 4 cfg0.N = codesR (argX m c) (argXs m c) (argW m c) (argWs m c) := by
  refine (dats m 0 c).arrAt_eq_of_cover 4 (codesR (argX m c) (argXs m c) (argW m c) (argWs m c)) (fun t _ => ?_) fun i => ?_
  · rw [Value.flushed4]
    funext j
    exact (point4 m c t j).trans (congrArg (codesR (argX m c) (argXs m c) (argW m c) (argWs m c)) (emb4 t j).symm)
  · refine ⟨(⟨0, by decide⟩ : Fin cfg0.N), flush0_4 _, ?_⟩
    have h := ((cfg0.win 4).blk (⟨0, by decide⟩ : Fin cfg0.N)).view.emb_mem_set i
    rwa [emb4] at h

/-- The scales the reference leaves. -/
theorem scales_final : (dats m 0 c).arrAt 5 cfg0.N = scalesR (argX m c) (argXs m c) (argW m c) (argWs m c) := by
  refine (dats m 0 c).arrAt_eq_of_cover 5 (scalesR (argX m c) (argXs m c) (argW m c) (argWs m c)) (fun t _ => ?_) fun i => ?_
  · rw [Value.flushed5]
    funext j
    exact (point5 m c t j).trans (congrArg (scalesR (argX m c) (argXs m c) (argW m c) (argWs m c)) (emb5 t j).symm)
  · refine ⟨(⟨0, by decide⟩ : Fin cfg0.N), flush0_5 _, ?_⟩
    have h := ((cfg0.win 5).blk (⟨0, by decide⟩ : Fin cfg0.N)).view.emb_mem_set i
    rwa [emb5] at h

end Cert.ReferenceIdeal.Hand

end
-- ==== Proof.lean ====
module

public import proofs.«01_k».proof.Defs
public import proofs.«01_k».proof.Proof.Gen.Kernel.Frame
public import proofs.«01_k».proof.Proof.Gen.ReferenceIdeal.Frame
public import proofs.«01_k».proof.Proof.KernelArrays
public import proofs.«01_k».proof.Proof.ReferenceArrays
public import Idealize.ShloMosaic.Adequacy
public import Idealize.ShloMosaic.Init

@[expose] public section

noncomputable section

-- The claims about Kernel, KernelIdeal, ReferenceIdeal also say that every semaphore counter ends at zero; the proof must show that too.

namespace Cert.Proof

open Idealize.ShloMosaic Idealize.SL.Sem Cert.Kernel

/-- The constant stands for `-1 / log 2`. -/
theorem preserves : Cert.preserves_Kernel_KernelIdeal :=
  IdealRules.named_const.statement Cert.KernelIdeal.κ "neg_log2e" .f32 0xBFB8AA3B#32 ((-((Real.log 2)⁻¹) : ℝ) : EReal) rfl

/-- The kernel and the reference leave the same two arrays. -/
theorem algebraic : Cert.algebraic_KernelIdeal_ReferenceIdeal := by
  intro m g m' g' _ hargs
  refine ⟨fun c => Hand.codesR (KernelIdeal.Hand.argX m c) (KernelIdeal.Hand.argXs m c) (KernelIdeal.Hand.argW m c) (KernelIdeal.Hand.argWs m c),
    fun c => Hand.scalesR (KernelIdeal.Hand.argX m c) (KernelIdeal.Hand.argXs m c) (KernelIdeal.Hand.argW m c) (KernelIdeal.Hand.argWs m c), ?_, ?_⟩
  · refine (θ_run _ _ _).mono (fun r h c => ?_) (KernelIdeal.Hand.run_blocks m g)
    obtain ⟨h4, h5, h⟩ := h c
    exact ⟨h4.trans (KernelIdeal.Hand.codes_final m c), h5.trans (KernelIdeal.Hand.scales_final m c), h⟩
  · refine (θ_run _ _ _).mono (fun r h c => ?_) (ReferenceIdeal.Value.run_blocks m' g')
    obtain ⟨h4, h5, h⟩ := h c
    obtain ⟨a0, a1, a2, a3⟩ := hargs c
    have e0 : ReferenceIdeal.Hand.argX m' c = KernelIdeal.Hand.argX m c := a0
    have e1 : ReferenceIdeal.Hand.argXs m' c = KernelIdeal.Hand.argXs m c := a1
    have e2 : ReferenceIdeal.Hand.argW m' c = KernelIdeal.Hand.argW m c := a2
    have e3 : ReferenceIdeal.Hand.argWs m' c = KernelIdeal.Hand.argWs m c := a3
    have f4 := ReferenceIdeal.Hand.codes_final m' c
    have f5 := ReferenceIdeal.Hand.scales_final m' c
    rw [e0, e1, e2, e3] at f4 f5
    exact ⟨h4.trans f4, h5.trans f5, h⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Hand.frame m ρ,
    fun m ρ _ => Cert.ReferenceIdeal.Gen.frame m ρ, preserves, algebraic⟩

end Cert.Proof

end
